-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_bounded [hPre_gamma_bounded : Cert.Pre_gamma_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_bounded [hPre_gamma_bounded : Cert.Pre_gamma_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gamma_bounded [hKernelIdeal : Cert.KernelIdeal.Facts] [hPre_gamma_bounded : Cert.Pre_gamma_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gamma_bounded [hReferenceIdeal : Cert.ReferenceIdeal.Facts] [hPre_gamma_bounded : Cert.Pre_gamma_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_d" .f32 0x38638E39#32 ((18432⁻¹ : ℝ) : EReal)

def algebraic_KernelIdeal_ReferenceIdeal_pre_gamma_bounded [hKernelIdeal : Cert.KernelIdeal.Facts] [hReferenceIdeal : Cert.ReferenceIdeal.Facts] [hPre_gamma_bounded : Cert.Pre_gamma_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_gamma_bounded : Cert.Pre_gamma_bounded.Facts),
    quiescent_Kernel (hKernel := hKernel)
    ∧ quiescent_KernelIdeal (hKernelIdeal := hKernelIdeal)
    ∧ quiescent_KernelIdeal_pre_gamma_bounded (hKernelIdeal := hKernelIdeal) (hPre_gamma_bounded := hPre_gamma_bounded)
    ∧ quiescent_ReferenceIdeal (hReferenceIdeal := hReferenceIdeal)
    ∧ quiescent_ReferenceIdeal_pre_gamma_bounded (hReferenceIdeal := hReferenceIdeal) (hPre_gamma_bounded := hPre_gamma_bounded)
    ∧ preserves_Kernel_KernelIdeal
    ∧ algebraic_KernelIdeal_ReferenceIdeal_pre_gamma_bounded (hKernelIdeal := hKernelIdeal) (hReferenceIdeal := hReferenceIdeal) (hPre_gamma_bounded := hPre_gamma_bounded)
-- ==== Pre_gamma_bounded.lean ====
abbrev S2x4096x18432 : Shape := ⟨3, ![2, 4096, 18432]⟩
abbrev S18432 : Shape := ⟨1, ![18432]⟩
abbrev S_ : Shape := ⟨0, ![]⟩

class Facts : Prop where
  bitsLt_bf16_f32 : FTy.bits .bf16 < FTy.bits .f32
  bcast_S_S18432 : S_.BroadcastsInDim S18432 (![] : Fin 0 → Fin S18432.rank)

variable [Facts]

def fn {F : FTy → Type} [FloatOps F] (main_arg0 : FVec F S2x4096x18432 .bf16) (main_arg1 : FVec F S18432 .bf16) : IVec S18432 1 :=
  let main_v0 : FVec F S18432 .f32 := (extf .f32 · bitsLt_bf16_f32) main_arg1
  let main_v1 : FVec F S18432 .f32 := Host.absf main_v0
  let main_cst : FVec F S_ .f32 := constant S_ .f32 0x7F000000#32
  let main_v2 : FVec F S18432 .f32 := broadcastInDim S18432 ![] bcast_S_S18432 main_cst
  let main_v3 : IVec S18432 1 := cmpf .ole main_v1 main_v2
  main_v3
-- ==== Kernel.lean ====
abbrev S2x4096x18432 : Shape := ⟨3, ![2, 4096, 18432]⟩
abbrev S18432 : Shape := ⟨1, ![18432]⟩
abbrev S8192x18432 : Shape := ⟨2, ![8192, 18432]⟩
abbrev S144x128 : Shape := ⟨2, ![144, 128]⟩
abbrev S144x8192 : Shape := ⟨2, ![144, 8192]⟩
abbrev S256x18432 : Shape := ⟨2, ![256, 18432]⟩
abbrev S144x256 : Shape := ⟨2, ![144, 256]⟩
abbrev S18432x128 : Shape := ⟨2, ![18432, 128]⟩
abbrev S256x128 : Shape := ⟨2, ![256, 128]⟩
abbrev S128x128 : Shape := ⟨2, ![128, 128]⟩
abbrev S1x128 : Shape := ⟨2, ![1, 128]⟩
abbrev S16x128 : Shape := ⟨2, ![16, 128]⟩
abbrev S16 : Shape := ⟨1, ![16]⟩
abbrev S16x1 : Shape := ⟨2, ![16, 1]⟩
abbrev S8x128 : Shape := ⟨2, ![8, 128]⟩
abbrev S8x256 : Shape := ⟨2, ![8, 256]⟩
abbrev S1x256 : Shape := ⟨2, ![1, 256]⟩
abbrev S128x256 : Shape := ⟨2, ![128, 256]⟩
abbrev S256 : Shape := ⟨1, ![256]⟩
abbrev S256x256 : Shape := ⟨2, ![256, 256]⟩

abbrev nBuf : Space → Nat
  | .hbm => 6
  | .vmem => 9
  | .smem => 0
  | _ => 0

abbrev bufTy : (tb : Table) → Fin (tcTables nBuf tb) → BufTy
  | .hbm, ⟨0, _⟩ => ⟨S2x4096x18432, .bf16⟩
  | .hbm, ⟨1, _⟩ => ⟨S18432, .bf16⟩
  | .hbm, ⟨2, _⟩ => ⟨S8192x18432, .bf16⟩
  | .hbm, ⟨3, _⟩ => ⟨S144x128, .bf16⟩
  | .hbm, ⟨4, _⟩ => ⟨S8192x18432, .fp8e4m3⟩
  | .hbm, ⟨5, _⟩ => ⟨S144x8192, .f32⟩
  | .local _ .vmem, ⟨0, _⟩ => ⟨S256x18432, .bf16⟩
  | .local _ .vmem, ⟨1, _⟩ => ⟨S256x18432, .bf16⟩
  | .local _ .vmem, ⟨2, _⟩ => ⟨S144x128, .bf16⟩
  | .local _ .vmem, ⟨3, _⟩ => ⟨S256x18432, .fp8e4m3⟩
  | .local _ .vmem, ⟨4, _⟩ => ⟨S256x18432, .fp8e4m3⟩
  | .local _ .vmem, ⟨5, _⟩ => ⟨S144x256, .f32⟩
  | .local _ .vmem, ⟨6, _⟩ => ⟨S144x256, .f32⟩
  | .local _ .vmem, ⟨7, _⟩ => ⟨S18432x128, .bf16⟩
  | .local _ .vmem, ⟨8, _⟩ => ⟨S256x128, .f32⟩
  | _, _ => ⟨S2x4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let c0_i32_2598 : BitVec 32 := 0#32
  let v5920 : BitVec 32 := Scalar.addi v5919 c0_i32_2598
  v5920
def k0_off1 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5922 : Index := Scalar.indexCast v5921
  let c0_2599 : Index := 0#32
  ![v5922.toNat, 0]
def k0_off2 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5927 : Index := Scalar.indexCast v5921
  let c128_2600 : Index := 128#32
  ![v5927.toNat, 128]
def k0_off3 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5933 : Index := Scalar.indexCast v5921
  let c256_2601 : Index := 256#32
  ![v5933.toNat, 256]
def k0_off4 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5939 : Index := Scalar.indexCast v5921
  let c384_2602 : Index := 384#32
  ![v5939.toNat, 384]
def k0_off5 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5945 : Index := Scalar.indexCast v5921
  let c512_2603 : Index := 512#32
  ![v5945.toNat, 512]
def k0_off6 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5951 : Index := Scalar.indexCast v5921
  let c640_2604 : Index := 640#32
  ![v5951.toNat, 640]
def k0_off7 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5957 : Index := Scalar.indexCast v5921
  let c768_2605 : Index := 768#32
  ![v5957.toNat, 768]
def k0_off8 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5963 : Index := Scalar.indexCast v5921
  let c896_2606 : Index := 896#32
  ![v5963.toNat, 896]
def k0_off9 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5969 : Index := Scalar.indexCast v5921
  let c1024_2607 : Index := 1024#32
  ![v5969.toNat, 1024]
def k0_off10 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5975 : Index := Scalar.indexCast v5921
  let c1152_2608 : Index := 1152#32
  ![v5975.toNat, 1152]
def k0_off11 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5981 : Index := Scalar.indexCast v5921
  let c1280_2609 : Index := 1280#32
  ![v5981.toNat, 1280]
def k0_off12 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5987 : Index := Scalar.indexCast v5921
  let c1408_2610 : Index := 1408#32
  ![v5987.toNat, 1408]
def k0_off13 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5993 : Index := Scalar.indexCast v5921
  let c1536_2611 : Index := 1536#32
  ![v5993.toNat, 1536]
def k0_off14 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v5999 : Index := Scalar.indexCast v5921
  let c1664_2612 : Index := 1664#32
  ![v5999.toNat, 1664]
def k0_off15 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6005 : Index := Scalar.indexCast v5921
  let c1792_2613 : Index := 1792#32
  ![v6005.toNat, 1792]
def k0_off16 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6011 : Index := Scalar.indexCast v5921
  let c1920_2614 : Index := 1920#32
  ![v6011.toNat, 1920]
def k0_off17 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6017 : Index := Scalar.indexCast v5921
  let c2048_2615 : Index := 2048#32
  ![v6017.toNat, 2048]
def k0_off18 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6023 : Index := Scalar.indexCast v5921
  let c2176_2616 : Index := 2176#32
  ![v6023.toNat, 2176]
def k0_off19 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6029 : Index := Scalar.indexCast v5921
  let c2304_2617 : Index := 2304#32
  ![v6029.toNat, 2304]
def k0_off20 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6035 : Index := Scalar.indexCast v5921
  let c2432_2618 : Index := 2432#32
  ![v6035.toNat, 2432]
def k0_off21 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6041 : Index := Scalar.indexCast v5921
  let c2560_2619 : Index := 2560#32
  ![v6041.toNat, 2560]
def k0_off22 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6047 : Index := Scalar.indexCast v5921
  let c2688_2620 : Index := 2688#32
  ![v6047.toNat, 2688]
def k0_off23 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6053 : Index := Scalar.indexCast v5921
  let c2816_2621 : Index := 2816#32
  ![v6053.toNat, 2816]
def k0_off24 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6059 : Index := Scalar.indexCast v5921
  let c2944_2622 : Index := 2944#32
  ![v6059.toNat, 2944]
def k0_off25 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6065 : Index := Scalar.indexCast v5921
  let c3072_2623 : Index := 3072#32
  ![v6065.toNat, 3072]
def k0_off26 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6071 : Index := Scalar.indexCast v5921
  let c3200_2624 : Index := 3200#32
  ![v6071.toNat, 3200]
def k0_off27 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6077 : Index := Scalar.indexCast v5921
  let c3328_2625 : Index := 3328#32
  ![v6077.toNat, 3328]
def k0_off28 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6083 : Index := Scalar.indexCast v5921
  let c3456_2626 : Index := 3456#32
  ![v6083.toNat, 3456]
def k0_off29 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6089 : Index := Scalar.indexCast v5921
  let c3584_2627 : Index := 3584#32
  ![v6089.toNat, 3584]
def k0_off30 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6095 : Index := Scalar.indexCast v5921
  let c3712_2628 : Index := 3712#32
  ![v6095.toNat, 3712]
def k0_off31 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6101 : Index := Scalar.indexCast v5921
  let c3840_2629 : Index := 3840#32
  ![v6101.toNat, 3840]
def k0_off32 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6107 : Index := Scalar.indexCast v5921
  let c3968_2630 : Index := 3968#32
  ![v6107.toNat, 3968]
def k0_off33 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6113 : Index := Scalar.indexCast v5921
  let c4096_2631 : Index := 4096#32
  ![v6113.toNat, 4096]
def k0_off34 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6119 : Index := Scalar.indexCast v5921
  let c4224_2632 : Index := 4224#32
  ![v6119.toNat, 4224]
def k0_off35 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6125 : Index := Scalar.indexCast v5921
  let c4352_2633 : Index := 4352#32
  ![v6125.toNat, 4352]
def k0_off36 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6131 : Index := Scalar.indexCast v5921
  let c4480_2634 : Index := 4480#32
  ![v6131.toNat, 4480]
def k0_off37 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6137 : Index := Scalar.indexCast v5921
  let c4608_2635 : Index := 4608#32
  ![v6137.toNat, 4608]
def k0_off38 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6143 : Index := Scalar.indexCast v5921
  let c4736_2636 : Index := 4736#32
  ![v6143.toNat, 4736]
def k0_off39 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6149 : Index := Scalar.indexCast v5921
  let c4864_2637 : Index := 4864#32
  ![v6149.toNat, 4864]
def k0_off40 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6155 : Index := Scalar.indexCast v5921
  let c4992_2638 : Index := 4992#32
  ![v6155.toNat, 4992]
def k0_off41 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6161 : Index := Scalar.indexCast v5921
  let c5120_2639 : Index := 5120#32
  ![v6161.toNat, 5120]
def k0_off42 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6167 : Index := Scalar.indexCast v5921
  let c5248_2640 : Index := 5248#32
  ![v6167.toNat, 5248]
def k0_off43 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6173 : Index := Scalar.indexCast v5921
  let c5376_2641 : Index := 5376#32
  ![v6173.toNat, 5376]
def k0_off44 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6179 : Index := Scalar.indexCast v5921
  let c5504_2642 : Index := 5504#32
  ![v6179.toNat, 5504]
def k0_off45 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6185 : Index := Scalar.indexCast v5921
  let c5632_2643 : Index := 5632#32
  ![v6185.toNat, 5632]
def k0_off46 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6191 : Index := Scalar.indexCast v5921
  let c5760_2644 : Index := 5760#32
  ![v6191.toNat, 5760]
def k0_off47 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6197 : Index := Scalar.indexCast v5921
  let c5888_2645 : Index := 5888#32
  ![v6197.toNat, 5888]
def k0_off48 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6203 : Index := Scalar.indexCast v5921
  let c6016_2646 : Index := 6016#32
  ![v6203.toNat, 6016]
def k0_off49 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6209 : Index := Scalar.indexCast v5921
  let c6144_2647 : Index := 6144#32
  ![v6209.toNat, 6144]
def k0_off50 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6215 : Index := Scalar.indexCast v5921
  let c6272_2648 : Index := 6272#32
  ![v6215.toNat, 6272]
def k0_off51 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6221 : Index := Scalar.indexCast v5921
  let c6400_2649 : Index := 6400#32
  ![v6221.toNat, 6400]
def k0_off52 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6227 : Index := Scalar.indexCast v5921
  let c6528_2650 : Index := 6528#32
  ![v6227.toNat, 6528]
def k0_off53 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6233 : Index := Scalar.indexCast v5921
  let c6656_2651 : Index := 6656#32
  ![v6233.toNat, 6656]
def k0_off54 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6239 : Index := Scalar.indexCast v5921
  let c6784_2652 : Index := 6784#32
  ![v6239.toNat, 6784]
def k0_off55 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6245 : Index := Scalar.indexCast v5921
  let c6912_2653 : Index := 6912#32
  ![v6245.toNat, 6912]
def k0_off56 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6251 : Index := Scalar.indexCast v5921
  let c7040_2654 : Index := 7040#32
  ![v6251.toNat, 7040]
def k0_off57 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6257 : Index := Scalar.indexCast v5921
  let c7168_2655 : Index := 7168#32
  ![v6257.toNat, 7168]
def k0_off58 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6263 : Index := Scalar.indexCast v5921
  let c7296_2656 : Index := 7296#32
  ![v6263.toNat, 7296]
def k0_off59 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6269 : Index := Scalar.indexCast v5921
  let c7424_2657 : Index := 7424#32
  ![v6269.toNat, 7424]
def k0_off60 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6275 : Index := Scalar.indexCast v5921
  let c7552_2658 : Index := 7552#32
  ![v6275.toNat, 7552]
def k0_off61 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6281 : Index := Scalar.indexCast v5921
  let c7680_2659 : Index := 7680#32
  ![v6281.toNat, 7680]
def k0_off62 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6287 : Index := Scalar.indexCast v5921
  let c7808_2660 : Index := 7808#32
  ![v6287.toNat, 7808]
def k0_off63 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6293 : Index := Scalar.indexCast v5921
  let c7936_2661 : Index := 7936#32
  ![v6293.toNat, 7936]
def k0_off64 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6299 : Index := Scalar.indexCast v5921
  let c8064_2662 : Index := 8064#32
  ![v6299.toNat, 8064]
def k0_off65 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6305 : Index := Scalar.indexCast v5921
  let c8192_2663 : Index := 8192#32
  ![v6305.toNat, 8192]
def k0_off66 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6311 : Index := Scalar.indexCast v5921
  let c8320_2664 : Index := 8320#32
  ![v6311.toNat, 8320]
def k0_off67 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6317 : Index := Scalar.indexCast v5921
  let c8448_2665 : Index := 8448#32
  ![v6317.toNat, 8448]
def k0_off68 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6323 : Index := Scalar.indexCast v5921
  let c8576_2666 : Index := 8576#32
  ![v6323.toNat, 8576]
def k0_off69 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6329 : Index := Scalar.indexCast v5921
  let c8704_2667 : Index := 8704#32
  ![v6329.toNat, 8704]
def k0_off70 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6335 : Index := Scalar.indexCast v5921
  let c8832_2668 : Index := 8832#32
  ![v6335.toNat, 8832]
def k0_off71 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6341 : Index := Scalar.indexCast v5921
  let c8960_2669 : Index := 8960#32
  ![v6341.toNat, 8960]
def k0_off72 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6347 : Index := Scalar.indexCast v5921
  let c9088_2670 : Index := 9088#32
  ![v6347.toNat, 9088]
def k0_off73 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6353 : Index := Scalar.indexCast v5921
  let c9216_2671 : Index := 9216#32
  ![v6353.toNat, 9216]
def k0_off74 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6359 : Index := Scalar.indexCast v5921
  let c9344_2672 : Index := 9344#32
  ![v6359.toNat, 9344]
def k0_off75 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6365 : Index := Scalar.indexCast v5921
  let c9472_2673 : Index := 9472#32
  ![v6365.toNat, 9472]
def k0_off76 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6371 : Index := Scalar.indexCast v5921
  let c9600_2674 : Index := 9600#32
  ![v6371.toNat, 9600]
def k0_off77 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6377 : Index := Scalar.indexCast v5921
  let c9728_2675 : Index := 9728#32
  ![v6377.toNat, 9728]
def k0_off78 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6383 : Index := Scalar.indexCast v5921
  let c9856_2676 : Index := 9856#32
  ![v6383.toNat, 9856]
def k0_off79 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6389 : Index := Scalar.indexCast v5921
  let c9984_2677 : Index := 9984#32
  ![v6389.toNat, 9984]
def k0_off80 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6395 : Index := Scalar.indexCast v5921
  let c10112_2678 : Index := 10112#32
  ![v6395.toNat, 10112]
def k0_off81 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6401 : Index := Scalar.indexCast v5921
  let c10240_2679 : Index := 10240#32
  ![v6401.toNat, 10240]
def k0_off82 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6407 : Index := Scalar.indexCast v5921
  let c10368_2680 : Index := 10368#32
  ![v6407.toNat, 10368]
def k0_off83 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6413 : Index := Scalar.indexCast v5921
  let c10496_2681 : Index := 10496#32
  ![v6413.toNat, 10496]
def k0_off84 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6419 : Index := Scalar.indexCast v5921
  let c10624_2682 : Index := 10624#32
  ![v6419.toNat, 10624]
def k0_off85 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6425 : Index := Scalar.indexCast v5921
  let c10752_2683 : Index := 10752#32
  ![v6425.toNat, 10752]
def k0_off86 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6431 : Index := Scalar.indexCast v5921
  let c10880_2684 : Index := 10880#32
  ![v6431.toNat, 10880]
def k0_off87 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6437 : Index := Scalar.indexCast v5921
  let c11008_2685 : Index := 11008#32
  ![v6437.toNat, 11008]
def k0_off88 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6443 : Index := Scalar.indexCast v5921
  let c11136_2686 : Index := 11136#32
  ![v6443.toNat, 11136]
def k0_off89 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6449 : Index := Scalar.indexCast v5921
  let c11264_2687 : Index := 11264#32
  ![v6449.toNat, 11264]
def k0_off90 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6455 : Index := Scalar.indexCast v5921
  let c11392_2688 : Index := 11392#32
  ![v6455.toNat, 11392]
def k0_off91 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6461 : Index := Scalar.indexCast v5921
  let c11520_2689 : Index := 11520#32
  ![v6461.toNat, 11520]
def k0_off92 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6467 : Index := Scalar.indexCast v5921
  let c11648_2690 : Index := 11648#32
  ![v6467.toNat, 11648]
def k0_off93 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6473 : Index := Scalar.indexCast v5921
  let c11776_2691 : Index := 11776#32
  ![v6473.toNat, 11776]
def k0_off94 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6479 : Index := Scalar.indexCast v5921
  let c11904_2692 : Index := 11904#32
  ![v6479.toNat, 11904]
def k0_off95 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6485 : Index := Scalar.indexCast v5921
  let c12032_2693 : Index := 12032#32
  ![v6485.toNat, 12032]
def k0_off96 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6491 : Index := Scalar.indexCast v5921
  let c12160_2694 : Index := 12160#32
  ![v6491.toNat, 12160]
def k0_off97 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6497 : Index := Scalar.indexCast v5921
  let c12288_2695 : Index := 12288#32
  ![v6497.toNat, 12288]
def k0_off98 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6503 : Index := Scalar.indexCast v5921
  let c12416_2696 : Index := 12416#32
  ![v6503.toNat, 12416]
def k0_off99 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6509 : Index := Scalar.indexCast v5921
  let c12544_2697 : Index := 12544#32
  ![v6509.toNat, 12544]
def k0_off100 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6515 : Index := Scalar.indexCast v5921
  let c12672_2698 : Index := 12672#32
  ![v6515.toNat, 12672]
def k0_off101 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6521 : Index := Scalar.indexCast v5921
  let c12800_2699 : Index := 12800#32
  ![v6521.toNat, 12800]
def k0_off102 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6527 : Index := Scalar.indexCast v5921
  let c12928_2700 : Index := 12928#32
  ![v6527.toNat, 12928]
def k0_off103 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6533 : Index := Scalar.indexCast v5921
  let c13056_2701 : Index := 13056#32
  ![v6533.toNat, 13056]
def k0_off104 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6539 : Index := Scalar.indexCast v5921
  let c13184_2702 : Index := 13184#32
  ![v6539.toNat, 13184]
def k0_off105 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6545 : Index := Scalar.indexCast v5921
  let c13312_2703 : Index := 13312#32
  ![v6545.toNat, 13312]
def k0_off106 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6551 : Index := Scalar.indexCast v5921
  let c13440_2704 : Index := 13440#32
  ![v6551.toNat, 13440]
def k0_off107 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6557 : Index := Scalar.indexCast v5921
  let c13568_2705 : Index := 13568#32
  ![v6557.toNat, 13568]
def k0_off108 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6563 : Index := Scalar.indexCast v5921
  let c13696_2706 : Index := 13696#32
  ![v6563.toNat, 13696]
def k0_off109 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6569 : Index := Scalar.indexCast v5921
  let c13824_2707 : Index := 13824#32
  ![v6569.toNat, 13824]
def k0_off110 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6575 : Index := Scalar.indexCast v5921
  let c13952_2708 : Index := 13952#32
  ![v6575.toNat, 13952]
def k0_off111 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6581 : Index := Scalar.indexCast v5921
  let c14080_2709 : Index := 14080#32
  ![v6581.toNat, 14080]
def k0_off112 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6587 : Index := Scalar.indexCast v5921
  let c14208_2710 : Index := 14208#32
  ![v6587.toNat, 14208]
def k0_off113 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6593 : Index := Scalar.indexCast v5921
  let c14336_2711 : Index := 14336#32
  ![v6593.toNat, 14336]
def k0_off114 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6599 : Index := Scalar.indexCast v5921
  let c14464_2712 : Index := 14464#32
  ![v6599.toNat, 14464]
def k0_off115 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6605 : Index := Scalar.indexCast v5921
  let c14592_2713 : Index := 14592#32
  ![v6605.toNat, 14592]
def k0_off116 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6611 : Index := Scalar.indexCast v5921
  let c14720_2714 : Index := 14720#32
  ![v6611.toNat, 14720]
def k0_off117 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6617 : Index := Scalar.indexCast v5921
  let c14848_2715 : Index := 14848#32
  ![v6617.toNat, 14848]
def k0_off118 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6623 : Index := Scalar.indexCast v5921
  let c14976_2716 : Index := 14976#32
  ![v6623.toNat, 14976]
def k0_off119 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6629 : Index := Scalar.indexCast v5921
  let c15104_2717 : Index := 15104#32
  ![v6629.toNat, 15104]
def k0_off120 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6635 : Index := Scalar.indexCast v5921
  let c15232_2718 : Index := 15232#32
  ![v6635.toNat, 15232]
def k0_off121 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6641 : Index := Scalar.indexCast v5921
  let c15360_2719 : Index := 15360#32
  ![v6641.toNat, 15360]
def k0_off122 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6647 : Index := Scalar.indexCast v5921
  let c15488_2720 : Index := 15488#32
  ![v6647.toNat, 15488]
def k0_off123 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6653 : Index := Scalar.indexCast v5921
  let c15616_2721 : Index := 15616#32
  ![v6653.toNat, 15616]
def k0_off124 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6659 : Index := Scalar.indexCast v5921
  let c15744_2722 : Index := 15744#32
  ![v6659.toNat, 15744]
def k0_off125 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6665 : Index := Scalar.indexCast v5921
  let c15872_2723 : Index := 15872#32
  ![v6665.toNat, 15872]
def k0_off126 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6671 : Index := Scalar.indexCast v5921
  let c16000_2724 : Index := 16000#32
  ![v6671.toNat, 16000]
def k0_off127 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6677 : Index := Scalar.indexCast v5921
  let c16128_2725 : Index := 16128#32
  ![v6677.toNat, 16128]
def k0_off128 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6683 : Index := Scalar.indexCast v5921
  let c16256_2726 : Index := 16256#32
  ![v6683.toNat, 16256]
def k0_off129 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6689 : Index := Scalar.indexCast v5921
  let c16384_2727 : Index := 16384#32
  ![v6689.toNat, 16384]
def k0_off130 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6695 : Index := Scalar.indexCast v5921
  let c16512_2728 : Index := 16512#32
  ![v6695.toNat, 16512]
def k0_off131 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6701 : Index := Scalar.indexCast v5921
  let c16640_2729 : Index := 16640#32
  ![v6701.toNat, 16640]
def k0_off132 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6707 : Index := Scalar.indexCast v5921
  let c16768_2730 : Index := 16768#32
  ![v6707.toNat, 16768]
def k0_off133 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6713 : Index := Scalar.indexCast v5921
  let c16896_2731 : Index := 16896#32
  ![v6713.toNat, 16896]
def k0_off134 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6719 : Index := Scalar.indexCast v5921
  let c17024_2732 : Index := 17024#32
  ![v6719.toNat, 17024]
def k0_off135 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6725 : Index := Scalar.indexCast v5921
  let c17152_2733 : Index := 17152#32
  ![v6725.toNat, 17152]
def k0_off136 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6731 : Index := Scalar.indexCast v5921
  let c17280_2734 : Index := 17280#32
  ![v6731.toNat, 17280]
def k0_off137 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6737 : Index := Scalar.indexCast v5921
  let c17408_2735 : Index := 17408#32
  ![v6737.toNat, 17408]
def k0_off138 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6743 : Index := Scalar.indexCast v5921
  let c17536_2736 : Index := 17536#32
  ![v6743.toNat, 17536]
def k0_off139 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6749 : Index := Scalar.indexCast v5921
  let c17664_2737 : Index := 17664#32
  ![v6749.toNat, 17664]
def k0_off140 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6755 : Index := Scalar.indexCast v5921
  let c17792_2738 : Index := 17792#32
  ![v6755.toNat, 17792]
def k0_off141 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6761 : Index := Scalar.indexCast v5921
  let c17920_2739 : Index := 17920#32
  ![v6761.toNat, 17920]
def k0_off142 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6767 : Index := Scalar.indexCast v5921
  let c18048_2740 : Index := 18048#32
  ![v6767.toNat, 18048]
def k0_off143 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6773 : Index := Scalar.indexCast v5921
  let c18176_2741 : Index := 18176#32
  ![v6773.toNat, 18176]
def k0_off144 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6779 : Index := Scalar.indexCast v5921
  let c18304_2742 : Index := 18304#32
  ![v6779.toNat, 18304]
def k0_off145 (k0_t1 : Fin k0_t1_loop.trips) (c0_i32_2598 : BitVec 32) : Fin 2 → Nat :=
  let c0_i32_1 : BitVec 32 := 0#32
  let c1_i32 : BitVec 32 := 1#32
  let arg7 : BitVec 32 := Scf.iv c0_i32_1 c1_i32 k0_t1
  let c4_i32_2597 : BitVec 32 := 4#32
  let v5918 : BitVec 32 := Scalar.muli arg7 c4_i32_2597
  let c16_i32 : BitVec 32 := 16#32
  let v5919 : BitVec 32 := Scalar.muli v5918 c16_i32
  let v5920 : BitVec 32 := Scalar.addi v5919 c0_i32_2598
  let v5921 : BitVec 32 := v5920
  let v6794 : Index := Scalar.indexCast v5921
  let c0_2746 : Index := 0#32
  ![v6794.toNat, 0]
def k0_mult2 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_2747 : BitVec 32 := 4#32
  let v6798 : BitVec 32 := Scalar.muli arg7 c4_i32_2747
  let c16_i32_2748 : BitVec 32 := 16#32
  let v6799 : BitVec 32 := Scalar.muli v6798 c16_i32_2748
  let c16_i32_2749 : BitVec 32 := 16#32
  let v6800 : BitVec 32 := Scalar.addi v6799 c16_i32_2749
  v6800
def k0_mult3 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_2898 : BitVec 32 := 4#32
  let v7678 : BitVec 32 := Scalar.muli arg7 c4_i32_2898
  let c16_i32_2899 : BitVec 32 := 16#32
  let v7679 : BitVec 32 := Scalar.muli v7678 c16_i32_2899
  let c32_i32 : BitVec 32 := 32#32
  let v7680 : BitVec 32 := Scalar.addi v7679 c32_i32
  v7680
def k0_mult4 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_3048 : BitVec 32 := 4#32
  let v8558 : BitVec 32 := Scalar.muli arg7 c4_i32_3048
  let c16_i32_3049 : BitVec 32 := 16#32
  let v8559 : BitVec 32 := Scalar.muli v8558 c16_i32_3049
  let c48_i32 : BitVec 32 := 48#32
  let v8560 : BitVec 32 := Scalar.addi v8559 c48_i32
  v8560
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x18432 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_d" => some ((18432⁻¹ : ℝ) : EReal)
  | _ => none
-- ==== ReferenceIdeal.lean ====
abbrev S2x4096x18432 : Shape := ⟨3, ![2, 4096, 18432]⟩
abbrev S18432 : Shape := ⟨1, ![18432]⟩
abbrev S8192x18432 : Shape := ⟨2, ![8192, 18432]⟩
abbrev S_ : Shape := ⟨0, ![]⟩
abbrev S8192 : Shape := ⟨1, ![8192]⟩
abbrev S8192x1 : Shape := ⟨2, ![8192, 1]⟩
abbrev S1x18432 : Shape := ⟨2, ![1, 18432]⟩
abbrev S8192x144x128 : Shape := ⟨3, ![8192, 144, 128]⟩
abbrev S8192x144 : Shape := ⟨2, ![8192, 144]⟩
abbrev S253 : Shape := ⟨1, ![253]⟩
abbrev S8192x144x1 : Shape := ⟨3, ![8192, 144, 1]⟩
abbrev S1x1x253 : Shape := ⟨3, ![1, 1, 253]⟩
abbrev S8192x144x253 : Shape := ⟨3, ![8192, 144, 253]⟩
abbrev S144x8192 : Shape := ⟨2, ![144, 8192]⟩

abbrev nBuf : Space → Nat
  | .hbm => 79
  | .vmem => 2
  | .smem => 0
  | _ => 0

abbrev bufTy : (tb : Table) → Fin (tcTables nBuf tb) → BufTy
  | .hbm, ⟨0, _⟩ => ⟨S2x4096x18432, .bf16⟩
  | .hbm, ⟨1, _⟩ => ⟨S18432, .bf16⟩
  | .hbm, ⟨2, _⟩ => ⟨S8192x18432, .bf16⟩
  | .hbm, ⟨3, _⟩ => ⟨S8192x18432, .f32⟩
  | .hbm, ⟨4, _⟩ => ⟨S8192x18432, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x18432, .f32⟩
  | .hbm, ⟨16, _⟩ => ⟨S8192x18432, .f32⟩
  | .hbm, ⟨17, _⟩ => ⟨S18432, .f32⟩
  | .hbm, ⟨18, _⟩ => ⟨S1x18432, .f32⟩
  | .hbm, ⟨19, _⟩ => ⟨S8192x18432, .f32⟩
  | .hbm, ⟨20, _⟩ => ⟨S8192x18432, .f32⟩
  | .hbm, ⟨21, _⟩ => ⟨S8192x144x128, .f32⟩
  | .hbm, ⟨22, _⟩ => ⟨S8192x144x128, .f32⟩
  | .hbm, ⟨23, _⟩ => ⟨S_, .f32⟩
  | .hbm, ⟨24, _⟩ => ⟨S8192x144, .f32⟩
  | .hbm, ⟨25, _⟩ => ⟨S_, .f32⟩
  | .hbm, ⟨26, _⟩ => ⟨S8192x144, .f32⟩
  | .hbm, ⟨27, _⟩ => ⟨S8192x144, .f32⟩
  | .hbm, ⟨28, _⟩ => ⟨S_, .f32⟩
  | .hbm, ⟨29, _⟩ => ⟨S8192x144, .f32⟩
  | .hbm, ⟨30, _⟩ => ⟨S8192x144, .i1⟩
  | .hbm, ⟨31, _⟩ => ⟨S_, .f32⟩
  | .hbm, ⟨32, _⟩ => ⟨S_, .f32⟩
  | .hbm, ⟨33, _⟩ => ⟨S8192x144, .f32⟩
  | .hbm, ⟨34, _⟩ => ⟨S8192x144, .f32⟩
  | .hbm, ⟨35, _⟩ => ⟨S253, .i32⟩
  | .hbm, ⟨36, _⟩ => ⟨S_, .i32⟩
  | .hbm, ⟨37, _⟩ => ⟨S253, .i32⟩
  | .hbm, ⟨38, _⟩ => ⟨S253, .i32⟩
  | .hbm, ⟨39, _⟩ => ⟨S253, .f32⟩
  | .hbm, ⟨40, _⟩ => ⟨S_, .f32⟩
  | .hbm, ⟨41, _⟩ => ⟨S253, .f32⟩
  | .hbm, ⟨42, _⟩ => ⟨S253, .f32⟩
  | .hbm, ⟨43, _⟩ => ⟨S8192x144x1, .f32⟩
  | .hbm, ⟨44, _⟩ => ⟨S1x1x253, .f32⟩
  | .hbm, ⟨45, _⟩ => ⟨S8192x144x253, .f32⟩
  | .hbm, ⟨46, _⟩ => ⟨S8192x144x253, .f32⟩
  | .hbm, ⟨47, _⟩ => ⟨S8192x144x253, .i1⟩
  | .hbm, ⟨48, _⟩ => ⟨S_, .f32⟩
  | .hbm, ⟨49, _⟩ => ⟨S_, .f32⟩
  | .hbm, ⟨50, _⟩ => ⟨S8192x144x253, .f32⟩
  | .hbm, ⟨51, _⟩ => ⟨S8192x144x253, .f32⟩
  | .hbm, ⟨52, _⟩ => ⟨S8192x144x253, .f32⟩
  | .hbm, ⟨53, _⟩ => ⟨S_, .f32⟩
  | .hbm, ⟨54, _⟩ => ⟨S8192x144, .f32⟩
  | .hbm, ⟨55, _⟩ => ⟨S_, .f32⟩
  | .hbm, ⟨56, _⟩ => ⟨S8192x144, .f32⟩
  | .hbm, ⟨57, _⟩ => ⟨S8192x144, .i1⟩
  | .hbm, ⟨58, _⟩ => ⟨S_, .f32⟩
  | .hbm, ⟨59, _⟩ => ⟨S_, .f32⟩
  | .hbm, ⟨60, _⟩ => ⟨S8192x144, .f32⟩
  | .hbm, ⟨61, _⟩ => ⟨S8192x144, .f32⟩
  | .hbm, ⟨62, _⟩ => ⟨S_, .f32⟩
  | .hbm, ⟨63, _⟩ => ⟨S8192x144, .f32⟩
  | .hbm, ⟨64, _⟩ => ⟨S8192x144, .f32⟩
  | .hbm, ⟨65, _⟩ => ⟨S8192x144x1, .f32⟩
  | .hbm, ⟨66, _⟩ => ⟨S8192x144x128, .f32⟩
  | .hbm, ⟨67, _⟩ => ⟨S8192x144x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192x144x128, .f32⟩
  | .hbm, ⟨72, _⟩ => ⟨S8192x144x128, .f32⟩
  | .hbm, ⟨73, _⟩ => ⟨S_, .f32⟩
  | .hbm, ⟨74, _⟩ => ⟨S8192x144x128, .f32⟩
  | .hbm, ⟨75, _⟩ => ⟨S8192x144x128, .f32⟩
  | .hbm, ⟨76, _⟩ => ⟨S8192x18432, .f32⟩
  | .hbm, ⟨77, _⟩ => ⟨S144x8192, .f32⟩
  | .hbm, ⟨78, _⟩ => ⟨S8192x18432, .fp8e4m3⟩
  | .local _ .vmem, ⟨0, _⟩ => ⟨S8192x18432, .f32⟩
  | .local _ .vmem, ⟨1, _⟩ => ⟨S8192x18432, .fp8e4m3⟩
  | _, _ => ⟨S2x4096x18432, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_cst_13 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Block.lean ====
module
public import proofs.«01_k».proof.Proof.Gen.KernelIdeal.Loops
@[expose] public section
set_option maxRecDepth 16384
/-! What the kernel computes for one block of 128 columns, written once: the kernel's text repeats these operations for
each of the 144 blocks of a row tile. -/
open Cert.KernelIdeal Cert.KernelIdeal.Gen Idealize.ShloMosaic Idealize.ShloMosaic.TcCoe Idealize.SL.Sem
namespace Cert.Proof.Block
noncomputable section
variable {F : FTy → Type} [FloatOps F]

/-- The square matrix with a block of the weight on its diagonal and zeros elsewhere. -/
def kDiag (g : Vec F S1x128 .bf16) : FVec F S128x128 .bf16 :=
  shapeCast S128x128
    (truncf .bf16
      (select (cmpi .eq (iota .tc S128x128 32 [0] iota_S128x128_d0_w32) (iota .tc S128x128 32 [1] iota_S128x128_d1_w32))
        (broadcastTo S128x128
          (shapeCast S1x128 (extf .f32 (shapeCast S1x128 g shapeCasts_S1x128_S1x128) bitsLt_bf16_f32)
            shapeCasts_S1x128_S1x128) broadcasts_S1x128_S128x128)
        (broadcast S128x128 (Scalar.ofBits .f32 0x00000000#32)))
      bitsLt_bf16_f32)
    shapeCasts_S128x128_S128x128

/-- The block weighted and turned: row `c`, column `t` is the weight of column `c` times entry `c` of row `t`. -/
def kProd (xb : Vec F S256x128 .bf16) (db : Vec F S128x128 .bf16) : FVec F S128x256 .f32 :=
  matmul dot_S128x128_S256x128_S128x256_1_1_0_0_n_n none db (shapeCast S256x128 xb shapeCasts_S256x128_S256x128)
    (constant S128x256 .f32 0x00000000#32)

/-- A row's inverse norm, read off the two halves of the scratch that holds it in every lane. -/
def kNorm (d0 d1 : Vec F S128x128 .f32) : FVec F S1x256 .f32 :=
  extractStridedSlice S1x256 ![0, 0]
    (concatenate S8x256 1
      [⟨S8x128, extractStridedSlice S8x128 ![0, 0] (transpose S128x128 [1, 0] d0 transposes_S128x128_p1_0_S128x128)
          slices_S128x128_o0_0_S8x128⟩,
        ⟨S8x128, extractStridedSlice S8x128 ![0, 0] (transpose S128x128 [1, 0] d1 transposes_S128x128_p1_0_S128x128)
          slices_S128x128_o0_0_S8x128⟩]
      concatenates_S8x128_S8x128_S8x256_d1)
    slices_S8x256_o0_0_S1x256

/-- A block's largest magnitude in each row, over the largest code. -/
def kAmax (r : FVec F S1x256 .f32) (p : FVec F S128x256 .f32) : FVec F S1x256 .f32 :=
  mulf
    (mulf
      (shapeCast S1x256
        (multiReduction .maximumf [0] S256 (absf p) 0xFF800000#32 reduces_S128x256_S256 (.inl rfl) rfl)
        shapeCasts_S256_S1x256)
      (mulf r (broadcast S1x256 (Scalar.ofBits .f32 0x3F800000#32))))
    (broadcast S1x256 (Scalar.ofBits .f32 0x3B124925#32))

/-- The largest of the 256 words whose exponent field alone may be set with a float at most `v`. -/
def kExp (v : FVec F S1x256 .f32) : IVec S1x256 32 :=
  shapeCast S1x256
    (multiReductionI .maxsi [0] S256
      (select
        (cmpf .ole
          (bitcastToFloat .f32
            (shli (iota .tc S256x256 32 [0] iota_S256x256_d0_w32) (broadcast S256x256 23#32)) : FVec F S256x256 .f32)
          (broadcastTo S256x256 v broadcasts_S1x256_S256x256))
        (shli (iota .tc S256x256 32 [0] iota_S256x256_d0_w32) (broadcast S256x256 23#32)) (broadcast S256x256 0#32))
      2147483648#32 reduces_S256x256_S256 rfl)
    shapeCasts_S256_S1x256

/-- The exponent word with that of one half put for zero. -/
def kWord (v : FVec F S1x256 .f32) : IVec S1x256 32 :=
  select (cmpi .eq (kExp v) (broadcast S1x256 0#32)) (broadcast S1x256 1056964608#32) (kExp v)

/-- The scale: the next power of two. -/
def kScale (v : FVec F S1x256 .f32) : FVec F S1x256 .f32 :=
  bitcastToFloat .f32 (addi (kWord v) (broadcast S1x256 8388608#32))

/-- One over the scale. -/
def kInv (v : FVec F S1x256 .f32) : FVec F S1x256 .f32 :=
  bitcastToFloat .f32 (subi (broadcast S1x256 2122317824#32) (kWord v))

/-- The codes of a block: its product scaled, clipped to ±448, rounded, and turned back. -/
def kCode (r : FVec F S1x256 .f32) (p : FVec F S128x256 .f32) (v : FVec F S1x256 .f32) : FVec F S256x128 .fp8e4m3 :=
  transpose S256x128 [1, 0]
    (truncf .fp8e4m3
      (minimumf (broadcast S128x256 (Scalar.ofBits .f32 0x43E00000#32))
        (maximumf (broadcast S128x256 (Scalar.ofBits .f32 0xC3E00000#32))
          (mulf p (broadcastTo S128x256 (mulf r (kInv v)) broadcasts_S1x256_S128x256))))
      bitsLt_fp8e4m3_f32)
    transposes_S128x256_p1_0_S256x128

/-- The square of a tile of sixteen rows by 128 columns. -/
def kSq (x : Vec F S16x128 .bf16) : FVec F S16x128 .f32 :=
  mulf (extf .f32 (shapeCast S16x128 x shapeCasts_S16x128_S16x128) bitsLt_bf16_f32)
    (extf .f32 (shapeCast S16x128 x shapeCasts_S16x128_S16x128) bitsLt_bf16_f32)

/-- The sum of the squares of the first `n + 1` tiles, added in order. -/
def kSum (ld : ℕ → Vec F S16x128 .bf16) : ℕ → FVec F S16x128 .f32
  | 0 => kSq (ld 0)
  | n + 1 => addf (kSum ld n) (kSq (ld (n + 1)))

variable [Named F]

/-- The inverse norm of sixteen rows, in every lane, from the lanes' sums of squares. -/
def kRsqrt (s : FVec F S16x128 .f32) : FVec F S16x128 .f32 :=
  shapeCast S16x128
    (broadcastTo S16x128
      (shapeCast S16x1
        (rsqrt
          (addf
            (mulf (shapeCast S16x1 (multiReduction .add [1] S16 s 0x00000000#32 reduces_S16x128_S16 (.inl rfl) rfl)
                shapeCasts_S16_S16x1)
              (broadcast S16x1 (Named.named κ "inv_d" 0x38638E39#32)))
            (broadcast S16x1 (Scalar.ofBits .f32 0x358637BD#32))))
        shapeCasts_S16x1_S16x1)
      broadcasts_S16x1_S16x128)
    shapeCasts_S16x128_S16x128
-- ==== Proof.Pieces.lean ====
module
public import proofs.«01_k».proof.Proof.Gen.KernelIdeal.Frame
public import proofs.«01_k».proof.Proof.Block
@[expose] public section
set_option maxRecDepth 16384
/-! The pieces the kernel's body stores at a grid point, in one list per array: piece `b` is block `b`'s. -/
open Cert.KernelIdeal Cert.KernelIdeal.Gen Idealize.ShloMosaic Idealize.ShloMosaic.TcCoe Idealize.SL.Sem
namespace Cert.Proof.Pieces
open Cert.Proof.Block
noncomputable section

/-- A block's columns lie in the tile. -/
theorem inb_col {b : ℕ} (h : b < 144) : ∀ a, (![0, 128 * b] : Fin 2 → ℕ) a + S256x128.size a ≤ S256x18432.size a := by
  intro a; fin_cases a
  · exact Nat.le_refl 256
  · change 128 * b + 128 ≤ 18432; omega

/-- A block's line lies in the scales. -/
theorem inb_row {b : ℕ} (h : b < 144) : ∀ a, (![b, 0] : Fin 2 → ℕ) a + S1x256.size a ≤ S144x256.size a := by
  intro a; fin_cases a
  · change b + 1 ≤ 144; omega
  · exact Nat.le_refl 256

/-- A block's square lies in the scratch. -/
theorem inb_diag {b : ℕ} (h : b < 144) : ∀ a, (![128 * b, 0] : Fin 2 → ℕ) a + S128x128.size a ≤ S18432x128.size a := by
  intro a; fin_cases a
  · change 128 * b + 128 ≤ 18432; omega
  · exact Nat.le_refl 128

/-- A block's line lies in the weight. -/
theorem inb_gamma {b : ℕ} (h : b < 144) : ∀ a, (![b, 0] : Fin 2 → ℕ) a + S1x128.size a ≤ S144x128.size a := by
  intro a; fin_cases a
  · change b + 1 ≤ 144; omega
  · exact Nat.le_refl 128

variable {F : FTy → Type} [FloatOps F]

/-- Block `b` of the row tile. -/
def ldX (arg1 : Memref sig .tc .vmem S256x18432 .bf16) (X : BufTy.Contents (Elt F) arg1.view.ty) {b : ℕ} (h : b < 144) :
    Vec F S256x128 .bf16 :=
  View.readAt (Elt F) arg1.view (Rect.unit (s := S256x18432) ![0, 128 * b] S256x128.size (inb_col h)).toLoadRect X

/-- Diagonal block `b` of the scratch. -/
def ldD (arg5 : Memref sig .tc .vmem S18432x128 .bf16) (X : BufTy.Contents (Elt F) arg5.view.ty) {b : ℕ} (h : b < 144) :
    Vec F S128x128 .bf16 :=
  View.readAt (Elt F) arg5.view (Rect.unit (s := S18432x128) ![128 * b, 0] S128x128.size (inb_diag h)).toLoadRect X

/-- Block `b` of the weight. -/
def ldG (arg2 : Memref sig .tc .vmem S144x128 .bf16) (X : BufTy.Contents (Elt F) arg2.view.ty) {b : ℕ} (h : b < 144) :
    Vec F S1x128 .bf16 :=
  View.readAt (Elt F) arg2.view (Rect.unit (s := S144x128) ![b, 0] S1x128.size (inb_gamma h)).toLoadRect X

/-- The codes' pieces of the first `n` blocks, last first. -/
def codeList (r : FVec F S1x256 .f32) (p : ∀ b, b < 144 → FVec F S128x256 .f32) :
    ∀ n, n ≤ 144 → List (View.Piece (Elt F) S256x18432 .fp8e4m3)
  | 0, _ => []
  | n + 1, h => ⟨Rect.unit ![0, 128 * n] ![256, 128] (inb_col h), kCode r (p n h) (kAmax r (p n h))⟩ ::
      codeList r p n (Nat.le_of_lt h)

/-- The scales' pieces of the first `n` blocks, last first. -/
def scaleList (r : FVec F S1x256 .f32) (p : ∀ b, b < 144 → FVec F S128x256 .f32) :
    ∀ n, n ≤ 144 → List (View.Piece (Elt F) S144x256 .f32)
  | 0, _ => []
  | n + 1, h => ⟨Rect.unit ![n, 0] ![1, 256] (inb_row h), kScale (kAmax r (p n h))⟩ ::
      scaleList r p n (Nat.le_of_lt h)

/-- The scratch's pieces of the first `n` blocks, last first. -/
def diagList (g : ∀ b, b < 144 → Vec F S1x128 .bf16) :
    ∀ n, n ≤ 144 → List (View.Piece (Elt F) S18432x128 .bf16)
  | 0, _ => []
  | n + 1, h => ⟨Rect.unit ![128 * n, 0] ![128, 128] (inb_diag h), kDiag (g n h)⟩ :: diagList g n (Nat.le_of_lt h)

variable [Named F]

/-- The row tile's inverse norms as the body reads them back from the scratch its loop fills. -/
def rowNorm (c : Dev nD) (i : grid0.Coords) (arg1 : Memref sig .tc .vmem S256x18432 .bf16) (harg1 : arg1.IsWhole) (arg2 : Memref sig .tc .vmem S144x128 .bf16) (harg2 : arg2.IsWhole) (arg3 : Memref sig .tc .vmem S256x18432 .fp8e4m3) (harg3 : arg3.IsWhole) (arg4 : Memref sig .tc .vmem S144x256 .f32) (harg4 : arg4.IsWhole) (arg5 : Memref sig .tc .vmem S18432x128 .bf16) (harg5 : arg5.IsWhole) (arg6 : Memref sig .tc .vmem S256x128 .f32) (harg6 : arg6.IsWhole)
    (x0 : Vec F S256x18432 .bf16) : FVec F S1x256 .f32 :=
  kNorm
    (arg6.view.readCov (pb_k0_t1 Variants.none c none i arg1 harg1 arg2 harg2 arg3 harg3 arg4 harg4 arg5 harg5 arg6 harg6
      (harg1.unread x0) k0_t1_loop.trips) (Rect.unit (s := S256x128) ![0, 0] S128x128.size inb_S256x128_S128x128_0_0).toLoadRect)
    (arg6.view.readCov (pb_k0_t1 Variants.none c none i arg1 harg1 arg2 harg2 arg3 harg3 arg4 harg4 arg5 harg5 arg6 harg6
      (harg1.unread x0) k0_t1_loop.trips) (Rect.unit (s := S256x128) ![128, 0] S128x128.size inb_S256x128_S128x128_128_0).toLoadRect)

/-- At a later point, the generated list of stores to the scales is the list over the blocks. -/
theorem scales_B (c : Dev nD) (i : grid0.Coords) (arg1 : Memref sig .tc .vmem S256x18432 .bf16) (harg1 : arg1.IsWhole) (arg2 : Memref sig .tc .vmem S144x128 .bf16) (harg2 : arg2.IsWhole) (arg3 : Memref sig .tc .vmem S256x18432 .fp8e4m3) (harg3 : arg3.IsWhole) (arg4 : Memref sig .tc .vmem S144x256 .f32) (harg4 : arg4.IsWhole) (arg5 : Memref sig .tc .vmem S18432x128 .bf16) (harg5 : arg5.IsWhole) (arg6 : Memref sig .tc .vmem S256x128 .f32) (harg6 : arg6.IsWhole) (hc0 : ¬cond0_0 i)
    (x0 : Vec F S256x18432 .bf16) (x1 : Vec F S144x128 .bf16) (xs0 : Vec F S18432x128 .bf16) :
    (kernelRun0_B c i arg1 harg1 arg2 harg2 arg3 harg3 arg4 harg4 arg5 harg5 arg6 harg6 hc0 x0 x1 xs0).2.1
      = scaleList (rowNorm c i arg1 harg1 arg2 harg2 arg3 harg3 arg4 harg4 arg5 harg5 arg6 harg6 x0)
          (fun b h => kProd (ldX arg1 (harg1.unread x0) h) (ldD arg5 (harg5.unread xs0) h)) 144 (Nat.le_refl _) := by
  unfold kernelRun0_B
  rfl

/-- At a later point, the generated list of stores to the codes is the list over the blocks. -/
theorem codes_B (c : Dev nD) (i : grid0.Coords) (arg1 : Memref sig .tc .vmem S256x18432 .bf16) (harg1 : arg1.IsWhole) (arg2 : Memref sig .tc .vmem S144x128 .bf16) (harg2 : arg2.IsWhole) (arg3 : Memref sig .tc .vmem S256x18432 .fp8e4m3) (harg3 : arg3.IsWhole) (arg4 : Memref sig .tc .vmem S144x256 .f32) (harg4 : arg4.IsWhole) (arg5 : Memref sig .tc .vmem S18432x128 .bf16) (harg5 : arg5.IsWhole) (arg6 : Memref sig .tc .vmem S256x128 .f32) (harg6 : arg6.IsWhole) (hc0 : ¬cond0_0 i)
    (x0 : Vec F S256x18432 .bf16) (x1 : Vec F S144x128 .bf16) (xs0 : Vec F S18432x128 .bf16) :
    (kernelRun0_B c i arg1 harg1 arg2 harg2 arg3 harg3 arg4 harg4 arg5 harg5 arg6 harg6 hc0 x0 x1 xs0).1
      = codeList (rowNorm c i arg1 harg1 arg2 harg2 arg3 harg3 arg4 harg4 arg5 harg5 arg6 harg6 x0)
          (fun b h => kProd (ldX arg1 (harg1.unread x0) h) (ldD arg5 (harg5.unread xs0) h)) 144 (Nat.le_refl _) := by
  unfold kernelRun0_B
  rfl

/-- At the first point, the generated list of stores to the scratch is the list over the blocks. -/
theorem diags_A (c : Dev nD) (i : grid0.Coords) (arg1 : Memref sig .tc .vmem S256x18432 .bf16) (harg1 : arg1.IsWhole) (arg2 : Memref sig .tc .vmem S144x128 .bf16) (harg2 : arg2.IsWhole) (arg3 : Memref sig .tc .vmem S256x18432 .fp8e4m3) (harg3 : arg3.IsWhole) (arg4 : Memref sig .tc .vmem S144x256 .f32) (harg4 : arg4.IsWhole) (arg5 : Memref sig .tc .vmem S18432x128 .bf16) (harg5 : arg5.IsWhole) (arg6 : Memref sig .tc .vmem S256x128 .f32) (harg6 : arg6.IsWhole) (hc0 : cond0_0 i)
    (x0 : Vec F S256x18432 .bf16) (x1 : Vec F S144x128 .bf16) :
    (kernelRun0_A c i arg1 harg1 arg2 harg2 arg3 harg3 arg4 harg4 arg5 harg5 arg6 harg6 hc0 x0 x1).2.2.1
      = diagList (fun b h => ldG arg2 (harg2.unread x1) h) 144 (Nat.le_refl _) := by
  unfold kernelRun0_A
  rfl

/-- The scratch's diagonal block `b` as the first grid point reads it back from what it has just stored. -/
def backD (arg2 : Memref sig .tc .vmem S144x128 .bf16) (harg2 : arg2.IsWhole)
    (arg5 : Memref sig .tc .vmem S18432x128 .bf16) (x1 : Vec F S144x128 .bf16) {b : ℕ} (h : b < 144) :
    Vec F S128x128 .bf16 :=
  arg5.view.readCov (diagList (fun b h => ldG arg2 (harg2.unread x1) h) 144 (Nat.le_refl _))
    (Rect.unit (s := S18432x128) ![128 * b, 0] S128x128.size (inb_diag h)).toLoadRect

/-- At the first point, the generated list of stores to the scales is the list over the blocks. -/
theorem scales_A  (c : Dev nD) (i : grid0.Coords) (arg1 : Memref sig .tc .vmem S256x18432 .bf16) (harg1 : arg1.IsWhole) (arg2 : Memref sig .tc .vmem S144x128 .bf16) (harg2 : arg2.IsWhole) (arg3 : Memref sig .tc .vmem S256x18432 .fp8e4m3) (harg3 : arg3.IsWhole) (arg4 : Memref sig .tc .vmem S144x256 .f32) (harg4 : arg4.IsWhole) (arg5 : Memref sig .tc .vmem S18432x128 .bf16) (harg5 : arg5.IsWhole) (arg6 : Memref sig .tc .vmem S256x128 .f32) (harg6 : arg6.IsWhole) (hc0 : cond0_0 i)
    (x0 : Vec F S256x18432 .bf16) (x1 : Vec F S144x128 .bf16) :
    (kernelRun0_A c i arg1 harg1 arg2 harg2 arg3 harg3 arg4 harg4 arg5 harg5 arg6 harg6 hc0 x0 x1).2.1
      = scaleList (rowNorm c i arg1 harg1 arg2 harg2 arg3 harg3 arg4 harg4 arg5 harg5 arg6 harg6 x0)
          (fun b h => kProd (ldX arg1 (harg1.unread x0) h) (backD arg2 harg2 arg5 x1 h)) 144 (Nat.le_refl _) := by
  unfold kernelRun0_A
  rfl

/-- At the first point, the generated list of stores to the codes is the list over the blocks. -/
theorem codes_A  (c : Dev nD) (i : grid0.Coords) (arg1 : Memref sig .tc .vmem S256x18432 .bf16) (harg1 : arg1.IsWhole) (arg2 : Memref sig .tc .vmem S144x128 .bf16) (harg2 : arg2.IsWhole) (arg3 : Memref sig .tc .vmem S256x18432 .fp8e4m3) (harg3 : arg3.IsWhole) (arg4 : Memref sig .tc .vmem S144x256 .f32) (harg4 : arg4.IsWhole) (arg5 : Memref sig .tc .vmem S18432x128 .bf16) (harg5 : arg5.IsWhole) (arg6 : Memref sig .tc .vmem S256x128 .f32) (harg6 : arg6.IsWhole) (hc0 : cond0_0 i)
    (x0 : Vec F S256x18432 .bf16) (x1 : Vec F S144x128 .bf16) :
    (kernelRun0_A c i arg1 harg1 arg2 harg2 arg3 harg3 arg4 harg4 arg5 harg5 arg6 harg6 hc0 x0 x1).1
      = codeList (rowNorm c i arg1 harg1 arg2 harg2 arg3 harg3 arg4 harg4 arg5 harg5 arg6 harg6 x0)
          (fun b h => kProd (ldX arg1 (harg1.unread x0) h) (backD arg2 harg2 arg5 x1 h)) 144 (Nat.le_refl _) := by
  unfold kernelRun0_A
  rfl
-- ==== Proof.Rows.lean ====
module
public import proofs.«01_k».proof.Proof.Gen.KernelIdeal.Loops
public import proofs.«01_k».proof.Proof.Block
@[expose] public section
set_option maxRecDepth 16384
/-! What one trip of the row loop stores: four tiles of sixteen rows, each the rows' inverse norms in every lane. -/
open Cert.KernelIdeal Cert.KernelIdeal.Gen Idealize.ShloMosaic Idealize.ShloMosaic.TcCoe Idealize.SL.Sem
namespace Cert.Proof.Rows
open Cert.Proof.Block
noncomputable section

/-- The first row of tile `q` of trip `k`, as the body computes it. -/
def rowOff (k : Fin k0_t1_loop.trips) (q : Fin 4) : ℕ := k0_off145 k (BitVec.ofNat 32 (16 * q.val)) 0

/-- It is `64 k + 16 q`. -/
theorem rowOff_eq : ∀ (k : Fin k0_t1_loop.trips) (q : Fin 4), rowOff k q = 64 * k.val + 16 * q.val := by
  decide +kernel

/-- The loop over the rows takes four turns. -/
theorem trips_eq : k0_t1_loop.trips = 4 := by decide +kernel

/-- Sixteen rows of a block lie in the tile. -/
theorem inb_tile (k : Fin k0_t1_loop.trips) (q : Fin 4) (b : ℕ) (h : b < 144) :
    ∀ a, (![rowOff k q, 128 * b] : Fin 2 → ℕ) a + S16x128.size a ≤ S256x18432.size a := by
  have hk : k.val < 4 := trips_eq ▸ k.isLt
  have := rowOff_eq k q
  have hq := q.isLt
  intro a; fin_cases a
  · change rowOff k q + 16 ≤ 256; omega
  · change 128 * b + 128 ≤ 18432; omega

/-- Sixteen rows lie in the rows' factors. -/
theorem inb_out (k : Fin k0_t1_loop.trips) (q : Fin 4) :
    ∀ a, (![rowOff k q, 0] : Fin 2 → ℕ) a + S16x128.size a ≤ S256x128.size a := by
  have hk : k.val < 4 := trips_eq ▸ k.isLt
  have := rowOff_eq k q
  have hq := q.isLt
  intro a; fin_cases a
  · change rowOff k q + 16 ≤ 256; omega
  · exact Nat.le_refl 128

variable {F : FTy → Type} [FloatOps F]

/-- Block `b` of the sixteen rows of tile `q` of trip `k`; past the last block, the last one. -/
def ldT (arg1 : Memref sig .tc .vmem S256x18432 .bf16) (X : BufTy.Contents (Elt F) arg1.view.ty)
    (k : Fin k0_t1_loop.trips) (q : Fin 4) (b : ℕ) : Vec F S16x128 .bf16 :=
  View.readAt (Elt F) arg1.view
    (Rect.unit (s := S256x18432) ![rowOff k q, 128 * min b 143] S16x128.size
      (inb_tile k q (min b 143) (by omega))).toLoadRect X

variable [Named F]

/-- The piece of tile `q` of trip `k`. -/
def tile (arg1 : Memref sig .tc .vmem S256x18432 .bf16) (X : BufTy.Contents (Elt F) arg1.view.ty)
    (k : Fin k0_t1_loop.trips) (q : Fin 4) : View.Piece (Elt F) S256x128 .f32 :=
  ⟨Rect.unit ![rowOff k q, 0] ![16, 128] (inb_out k q), kRsqrt (kSum (ldT arg1 X k q) 143)⟩

/-- A turn's generated list of stores is the list over its four groups of rows. -/
theorem trip_pieces (𝒱 : Variants) (c : Dev nD) (bd : Option 𝒱.V)  (i : grid0.Coords) (arg1 : Memref sig .tc .vmem S256x18432 .bf16) (harg1 : arg1.IsWhole) (arg2 : Memref sig .tc .vmem S144x128 .bf16) (harg2 : arg2.IsWhole) (arg3 : Memref sig .tc .vmem S256x18432 .fp8e4m3) (harg3 : arg3.IsWhole) (arg4 : Memref sig .tc .vmem S144x256 .f32) (harg4 : arg4.IsWhole) (arg5 : Memref sig .tc .vmem S18432x128 .bf16) (harg5 : arg5.IsWhole) (arg6 : Memref sig .tc .vmem S256x128 .f32) (harg6 : arg6.IsWhole)
    (X : BufTy.Contents (Elt F) arg1.view.ty) (k : Fin k0_t1_loop.trips) :
    tripL_k0_t1 𝒱 c bd i arg1 harg1 arg2 harg2 arg3 harg3 arg4 harg4 arg5 harg5 arg6 harg6 X k
      = [tile arg1 X k 3, tile arg1 X k 2, tile arg1 X k 1, tile arg1 X k 0] := by
  unfold tripL_k0_t1 trip_k0_t1
  rfl
-- ==== Proof.Exponent.lean ====
/- The arithmetic of one block's scale, on extended reals.

   The kernel finds the power-of-two scale of a block in integers: it takes the exponent field of a float `v`, as the word
   with that field and nothing else, and turns it into the floats `2 ^ e` and `2 ^ -e` by an addition to and a subtraction from the
   word. The reference takes the least power of two above `v` and divides one by it. Here it is shown that the
   two agree for every `v` from zero up to (and without) `2 ^ 126`. -/
module

public import Idealize.ShloMosaic.Lib.Pointwise

@[expose] public section

set_option maxRecDepth 16384

noncomputable section

namespace Cert.Proof.Exponent

open Idealize.ShloMosaic

/-- The word whose exponent field is `k` and whose other fields are zero. -/
def field (k : ℕ) : BitVec 32 := BitVec.ofNat 32 k <<< 23

/-- A word with exponent field `k`, neither the least nor the greatest, is the float `2 ^ (k - 127)`. -/
theorem ieee_field : ∀ k : ℕ, 1 ≤ k → k ≤ 254 → Ideal.ieee 8 23 (field k) = (((2 : ℝ) ^ ((k : ℤ) - 127) : ℝ) : EReal) := by
  intro k h1 h2
  have hs : ∀ k : Fin 256, ((field k.val).extractLsb' 31 1 == 1#1) = false ∧ ((field k.val).extractLsb' 23 8).toNat = k.val
      ∧ ((field k.val).extractLsb' 0 23).toNat = 0 := by decide +kernel
  obtain ⟨e1, e2, e3⟩ := hs ⟨k, by omega⟩
  simp only at e1 e2 e3
  unfold Ideal.ieee
  simp only [Nat.reduceAdd, e1, e2, e3]
  rw [if_neg (by omega), if_neg (by omega)]
  refine congrArg _ ?_
  have e : (((2 ^ 23 + 0 : ℕ) : ℝ)) = (2 : ℝ) ^ (23 : ℤ) := by norm_num
  rw [e, if_neg Bool.false_ne_true, one_mul, ← zpow_add₀ (two_ne_zero)]
  refine congrArg _ ?_
  norm_num

/-- The word zero is the float zero. -/
theorem ieee_field_zero : Ideal.ieee 8 23 (field 0) = 0 := by
  have e : ((field 0).extractLsb' 31 1 == 1#1) = false ∧ ((field 0).extractLsb' 23 8).toNat = 0
      ∧ ((field 0).extractLsb' 0 23).toNat = 0 := by decide +kernel
  unfold Ideal.ieee
  simp only [Nat.reduceAdd, e.1, e.2.1, e.2.2]
  norm_num

/-- The word with the greatest exponent field is infinity. -/
theorem ieee_field_top : Ideal.ieee 8 23 (field 255) = ⊤ := by
  have e : ((field 255).extractLsb' 31 1 == 1#1) = false ∧ ((field 255).extractLsb' 23 8).toNat = 255
      ∧ ((field 255).extractLsb' 0 23).toNat = 0 := by decide +kernel
  unfold Ideal.ieee
  simp only [Nat.reduceAdd, e.1, e.2.1, e.2.2]
  norm_num

/-- The kernel's exponent word of `v`: the greatest of the words `field k` whose float is at most `v`. -/
def word (v : EReal) : BitVec 32 :=
  (Finset.univ : Finset (Fin 256)).fold IntOp.maxsi 2147483648#32
    (fun k => if Ideal.ieee 8 23 (field k.val) ≤ v then field k.val else 0#32)

/-- The greatest of the words `field 0 … field E` and of zeros is `field E`. -/
theorem fold_le : ∀ E : Fin 256, (Finset.univ : Finset (Fin 256)).fold IntOp.maxsi 2147483648#32
    (fun k => if k.val ≤ E.val then field k.val else 0#32) = field E.val := by decide +kernel

/-- For `v` from `2 ^ (E - 127)` up to `2 ^ (E - 126)`, the exponent word is `field E`. -/
theorem word_of (v : EReal) (E : ℕ) (h1 : 1 ≤ E) (h2 : E ≤ 252) (hl : (((2 : ℝ) ^ ((E : ℤ) - 127) : ℝ) : EReal) ≤ v)
    (hu : v < (((2 : ℝ) ^ ((E : ℤ) - 126) : ℝ) : EReal)) : word v = field E := by
  rw [← fold_le ⟨E, by omega⟩]
  unfold word
  congr 1
  funext k
  obtain ⟨k, hk⟩ := k
  simp only
  have : Ideal.ieee 8 23 (field k) ≤ v ↔ k ≤ E := by
    rcases Nat.lt_or_ge 254 k with h | h
    · obtain rfl : k = 255 := by omega
      rw [ieee_field_top]
      constructor
      · intro h'; exact absurd (lt_of_le_of_lt h' hu) (by simp)
      · intro h'; omega
    · rcases Nat.eq_zero_or_pos k with rfl | h0
      · rw [ieee_field_zero]
        exact ⟨fun _ => by omega, fun _ => le_trans (by exact_mod_cast (by positivity : (0:ℝ) ≤ 2 ^ ((E : ℤ) - 127))) hl⟩
      · rw [ieee_field k h0 h]
        constructor
        · intro h'
          by_contra hc
          have : (((2 : ℝ) ^ ((E : ℤ) - 126) : ℝ) : EReal) ≤ (((2 : ℝ) ^ ((k : ℤ) - 127) : ℝ) : EReal) := by
            exact_mod_cast zpow_le_zpow_right₀ (by norm_num : (1:ℝ) ≤ 2) (by omega : (E : ℤ) - 126 ≤ (k : ℤ) - 127)
          exact absurd (lt_of_le_of_lt (this.trans h') hu) (lt_irrefl _)
        · intro h'
          refine le_trans ?_ hl
          exact_mod_cast zpow_le_zpow_right₀ (by norm_num : (1:ℝ) ≤ 2) (by omega : (k : ℤ) - 127 ≤ (E : ℤ) - 127)
  simp only [this]

/-- For `v` from zero up to `2 ^ -126`, the exponent word is zero. -/
theorem word_tiny (v : EReal) (h0 : 0 ≤ v) (hu : v < (((2 : ℝ) ^ (-126 : ℤ) : ℝ) : EReal)) : word v = 0#32 := by
  have := fold_le ⟨0, by omega⟩
  rw [show (0#32) = field (⟨0, by omega⟩ : Fin 256).val by decide +kernel, ← this]
  unfold word
  congr 1
  funext k
  obtain ⟨k, hk⟩ := k
  simp only
  have : Ideal.ieee 8 23 (field k) ≤ v ↔ k ≤ 0 := by
    rcases Nat.lt_or_ge 254 k with h | h
    · obtain rfl : k = 255 := by omega
      rw [ieee_field_top]
      constructor
      · intro h'; exact absurd (lt_of_le_of_lt h' hu) (by simp)
      · intro h'; omega
    · rcases Nat.eq_zero_or_pos k with rfl | hk0
      · rw [ieee_field_zero]
        exact ⟨fun _ => le_refl _, fun _ => h0⟩
      · rw [ieee_field k hk0 h]
        constructor
        · intro h'
          have : (((2 : ℝ) ^ (-126 : ℤ) : ℝ) : EReal) ≤ (((2 : ℝ) ^ ((k : ℤ) - 127) : ℝ) : EReal) := by
            exact_mod_cast zpow_le_zpow_right₀ (by norm_num : (1:ℝ) ≤ 2) (by omega : (-126 : ℤ) ≤ (k : ℤ) - 127)
          exact absurd (lt_of_le_of_lt (this.trans h') hu) (lt_irrefl _)
        · intro h'; omega
  simp only [this]

/-- The kernel's exponent word with zero replaced by the field of `1 / 2`. -/
def wordNz (v : EReal) : BitVec 32 := if word v = 0#32 then 1056964608#32 else word v

/-- The kernel's `2 ^ e`. -/
def scaleK (v : EReal) : EReal := Ideal.ieee 8 23 (wordNz v + 8388608#32)

/-- The kernel's `2 ^ -e`. -/
def invK (v : EReal) : EReal := Ideal.ieee 8 23 (2122317824#32 - wordNz v)

/-- The reference's `v`, with what is below the least normal float taken as zero. -/
def flush (v : EReal) : EReal := if v < (((2 : ℝ) ^ (-126 : ℤ) : ℝ) : EReal) then 0 else v

/-- The reference's scale: one at zero, else the least of the powers of two above `v`. -/
def scaleR (v : EReal) : EReal :=
  if flush v = 0 then 1 else
    (Finset.univ : Finset (Fin 253)).fold min ⊤ fun k =>
      if flush v < (((2 : ℝ) ^ ((k.val : ℤ) - 125) : ℝ) : EReal) then (((2 : ℝ) ^ ((k.val : ℤ) - 125) : ℝ) : EReal) else ⊤

/-- Every `v` from `2 ^ -126` up to `2 ^ 126` lies between two neighbouring powers of two. -/
theorem exists_field (v : EReal) (hl : (((2 : ℝ) ^ (-126 : ℤ) : ℝ) : EReal) ≤ v) (hu : v < (((2 : ℝ) ^ (126 : ℤ) : ℝ) : EReal)) :
    ∃ E : ℕ, 1 ≤ E ∧ E ≤ 252 ∧ (((2 : ℝ) ^ ((E : ℤ) - 127) : ℝ) : EReal) ≤ v ∧ v < (((2 : ℝ) ^ ((E : ℤ) - 126) : ℝ) : EReal) := by
  induction v using EReal.rec with
  | bot => exact absurd hl (by simp)
  | top => exact absurd hu (by simp)
  | coe r =>
    have hl' : (2 : ℝ) ^ (-126 : ℤ) ≤ r := by exact_mod_cast hl
    have hu' : r < (2 : ℝ) ^ (126 : ℤ) := by exact_mod_cast hu
    have hr : 0 < r := lt_of_lt_of_le (by positivity) hl'
    obtain ⟨n, hn1, hn2⟩ := exists_mem_Ico_zpow hr (by norm_num : (1 : ℝ) < 2)
    have a1 : (-126 : ℤ) < n + 1 := (zpow_lt_zpow_iff_right₀ (by norm_num : (1:ℝ) < 2)).1 (lt_of_le_of_lt hl' hn2)
    have a2 : n < 126 := (zpow_lt_zpow_iff_right₀ (by norm_num : (1:ℝ) < 2)).1 (lt_of_le_of_lt hn1 hu')
    refine ⟨(n + 127).toNat, by omega, by omega, ?_, ?_⟩
    · rw [show (((n + 127).toNat : ℤ) - 127) = n by omega]; exact_mod_cast hn1
    · rw [show (((n + 127).toNat : ℤ) - 126) = n + 1 by omega]; exact_mod_cast hn2

/-- The reference's scale of `v` from `2 ^ (E - 127)` up to `2 ^ (E - 126)` is `2 ^ (E - 126)`. -/
theorem scaleR_of (v : EReal) (E : ℕ) (h1 : 1 ≤ E) (h2 : E ≤ 252) (hl : (((2 : ℝ) ^ ((E : ℤ) - 127) : ℝ) : EReal) ≤ v)
    (hu : v < (((2 : ℝ) ^ ((E : ℤ) - 126) : ℝ) : EReal)) : scaleR v = (((2 : ℝ) ^ ((E : ℤ) - 126) : ℝ) : EReal) := by
  have hpos : (0 : EReal) < v := lt_of_lt_of_le (by exact_mod_cast (by positivity : (0:ℝ) < 2 ^ ((E : ℤ) - 127))) hl
  have hfl : flush v = v := by
    unfold flush
    rw [if_neg]
    rw [not_lt]
    refine le_trans ?_ hl
    exact_mod_cast zpow_le_zpow_right₀ (by norm_num : (1:ℝ) ≤ 2) (by omega : (-126 : ℤ) ≤ (E : ℤ) - 127)
  unfold scaleR
  rw [hfl, if_neg hpos.ne']
  apply le_antisymm
  · rw [Finset.fold_min_le]
    refine Or.inr ⟨⟨E - 1, by omega⟩, Finset.mem_univ _, ?_⟩
    have e : (((E - 1 : ℕ) : ℤ) - 125) = (E : ℤ) - 126 := by omega
    simp only [e, if_pos hu, le_refl]
  · rw [Finset.le_fold_min]
    refine ⟨le_top, fun k _ => ?_⟩
    split
    · rename_i hk
      have hlt := lt_of_le_of_lt hl hk
      have hlt' : (2 : ℝ) ^ ((E : ℤ) - 127) < (2 : ℝ) ^ ((k.val : ℤ) - 125) := by exact_mod_cast hlt
      have := (zpow_lt_zpow_iff_right₀ (by norm_num : (1:ℝ) < 2)).1 hlt'
      exact_mod_cast zpow_le_zpow_right₀ (by norm_num : (1:ℝ) ≤ 2) (by omega : (E : ℤ) - 126 ≤ (k.val : ℤ) - 125)
    · exact le_top

/-- The reference's scale of what is below the least normal float is one. -/
theorem scaleR_tiny (v : EReal) (hu : v < (((2 : ℝ) ^ (-126 : ℤ) : ℝ) : EReal)) : scaleR v = 1 := by
  unfold scaleR flush
  rw [if_pos hu, if_pos rfl]

/-- Adding one to the exponent field. -/
theorem field_add : ∀ E : Fin 255, field E.val + 8388608#32 = field (E.val + 1) := by decide +kernel

/-- Taking a word with an exponent field from the one with field `253`. -/
theorem field_sub : ∀ E : Fin 254, 2122317824#32 - field E.val = field (253 - E.val) := by decide +kernel

/-- A word with an exponent field that is not zero is not zero. -/
theorem field_ne : ∀ E : Fin 256, E.val ≠ 0 → field E.val ≠ 0#32 := by decide +kernel

/-- The kernel's scale is the reference's. -/
theorem scale_eq (v : EReal) (h0 : 0 ≤ v) (hu : v < (((2 : ℝ) ^ (126 : ℤ) : ℝ) : EReal)) : scaleK v = scaleR v := by
  rcases lt_or_ge v (((2 : ℝ) ^ (-126 : ℤ) : ℝ) : EReal) with h | h
  · rw [scaleR_tiny v h]
    unfold scaleK wordNz
    rw [word_tiny v h0 h, if_pos rfl, show (1056964608#32 + 8388608#32 : BitVec 32) = field 127 by decide +kernel, ieee_field 127 (by omega) (by omega)]
    norm_num
  · obtain ⟨E, h1, h2, h3, h4⟩ := exists_field v h hu
    rw [scaleR_of v E h1 h2 h3 h4]
    unfold scaleK wordNz
    rw [word_of v E h1 h2 h3 h4, if_neg (field_ne ⟨E, by omega⟩ (by simp only; omega)), field_add ⟨E, by omega⟩, ieee_field _ (by simp only; omega) (by simp only; omega)]
    congr 2
    push_cast
    ring

/-- The kernel's reciprocal scale is one divided by the reference's scale. -/
theorem inv_eq (v : EReal) (h0 : 0 ≤ v) (hu : v < (((2 : ℝ) ^ (126 : ℤ) : ℝ) : EReal)) : invK v = Ideal.div 1 (scaleR v) := by
  rcases lt_or_ge v (((2 : ℝ) ^ (-126 : ℤ) : ℝ) : EReal) with h | h
  · rw [scaleR_tiny v h]
    unfold invK wordNz
    rw [word_tiny v h0 h, if_pos rfl, show (2122317824#32 - 1056964608#32 : BitVec 32) = field 127 by decide +kernel, ieee_field 127 (by omega) (by omega)]
    have := Ideal.div_coe (by norm_num : (1 : ℝ) ≠ 0) 1
    rw [EReal.coe_one] at this
    rw [this]
    norm_num
  · obtain ⟨E, h1, h2, h3, h4⟩ := exists_field v h hu
    rw [scaleR_of v E h1 h2 h3 h4]
    unfold invK wordNz
    rw [word_of v E h1 h2 h3 h4, if_neg (field_ne ⟨E, by omega⟩ (by simp only; omega)), field_sub ⟨E, by omega⟩, ieee_field _ (by simp only; omega) (by simp only; omega),
      Ideal.div_coe (by positivity)]
    rw [one_mul, one_div, ← zpow_neg]
    congr 2
    push_cast [show E ≤ 253 by omega]
    ring

/-- The reference's scale is a positive number. -/
theorem scaleR_pos (v : EReal) : 0 < scaleR v := by
  unfold scaleR
  split
  · exact zero_lt_one
  · rw [Finset.lt_fold_min]
    refine ⟨EReal.coe_lt_top 0, fun k _ => ?_⟩
    split
    · exact_mod_cast (by positivity : (0:ℝ) < 2 ^ ((k.val : ℤ) - 125))
    · exact EReal.coe_lt_top 0

end Cert.Proof.Exponent

end
-- ==== Proof.BlockValue.lean ====
module
public import proofs.«01_k».proof.Proof.Block
public import proofs.«01_k».proof.Proof.Exponent
@[expose] public section
set_option maxRecDepth 16384
/-! The block operations read at an index, on extended reals. -/
open Cert.KernelIdeal Cert.KernelIdeal.Gen Idealize.ShloMosaic Idealize.ShloMosaic.TcCoe Idealize.SL.Sem
namespace Cert.Proof.Block
open Cert.Proof.Exponent
noncomputable section

/-- The single-precision number nearest one over the largest code. -/
def k448 : EReal := Ideal.ofBits .f32 0x3B124925#32

/-- The single-precision number nearest a millionth. -/
def eps : EReal := Ideal.ofBits .f32 0x358637BD#32

/-- The largest code. -/
def top : EReal := Ideal.ofBits .f32 0x43E00000#32

/-- The least code. -/
def bot : EReal := Ideal.ofBits .f32 0xC3E00000#32

/-- The pattern of minus infinity is the least extended real. -/
theorem ofBits_neg_inf : Ideal.ofBits .f32 0xFF800000#32 = ⊥ := by
  have e : ((0xFF800000#32 : BitVec 32).extractLsb' 31 1 == 1#1) = true ∧ ((0xFF800000#32 : BitVec 32).extractLsb' 23 8).toNat = 255
      ∧ ((0xFF800000#32 : BitVec 32).extractLsb' 0 23).toNat = 0 := by decide +kernel
  unfold Ideal.ofBits Ideal.ieee
  simp only [Nat.reduceAdd, e.1, e.2.1, e.2.2]
  norm_num

/-- Choosing by whether two column numbers are the same word is choosing by whether they are the same. -/
theorem select_word_eq (a b : Fin 128) (x y : EReal) :
    Scalar.select (IntOp.cmpi CmpIPredicate.eq (BitVec.ofNat 32 a.val) (BitVec.ofNat 32 b.val)) x y
      = if a = b then x else y := by
  have h : (BitVec.ofNat 32 a.val == BitVec.ofNat 32 b.val) = decide (a = b) := by
    revert a b; decide +kernel
  unfold Scalar.select IntOp.cmpi
  simp only [h]
  by_cases e : a = b <;> simp [e]

/-- Choosing by whether a word is zero. -/
theorem select_zero_word (w x y : BitVec 32) :
    Scalar.select (IntOp.cmpi CmpIPredicate.eq w 0#32) x y = if w = 0#32 then x else y := by
  unfold Scalar.select IntOp.cmpi
  by_cases e : w = 0#32
  · simp [e]
  · have h : (w == 0#32) = false := by simpa using e
    simp only [h, if_neg e]
    rfl

/-- The square a block of the weight becomes, at an index: the weight on the diagonal, zero elsewhere. -/
theorem kDiag_apply (g : Vec Ideal S1x128 .bf16) (a b : Fin 128) :
    kDiag g (ix2 a b) = if a = b then g (ix2 0 b) else 0 := by
  pointwise [kDiag]
  exact select_word_eq a b _ _

/-- The product of a square with a block of the tile, at an index: a sum over the block. -/
theorem kProd_apply (xb : Vec Ideal S256x128 .bf16) (db : Vec Ideal S128x128 .bf16) (a : Fin 128) (t : Fin 256) :
    kProd xb db (ix2 a t) = ∑ k : Fin 128, db (ix2 a k) * xb (ix2 t k) := by
  pointwise [kProd]

/-- Against a diagonal matrix the product is the diagonal's entry times the block's. -/
theorem kProd_diag (xb : Vec Ideal S256x128 .bf16) (db : Vec Ideal S128x128 .bf16) (w : Fin 128 → EReal)
    (h : ∀ a k : Fin 128, db (ix2 a k) = if a = k then w k else 0) (a : Fin 128) (t : Fin 256) :
    kProd xb db (ix2 a t) = w a * xb (ix2 t a) := by
  rw [kProd_apply, Finset.sum_eq_single a]
  · rw [h, if_pos rfl]
  · intro b _ hb
    rw [h, if_neg (Ne.symm hb)]
    exact zero_mul _
  · intro ha; exact absurd (Finset.mem_univ a) ha

/-- The rows' factors, joined into one line, at an index. -/
theorem kNorm_apply (d0 d1 : Vec Ideal S128x128 .f32) (t : Fin 256) :
    kNorm d0 d1 (ix2 0 t) = if h : t.val < 128 then d0 (ix2 ⟨t.val, h⟩ 0) else d1 (ix2 ⟨t.val - 128, by omega⟩ 0) := by
  pointwise [kNorm]

/-- A block's largest magnitude times the row's factor, over the largest code, at an index. -/
theorem kAmax_apply (r : FVec Ideal S1x256 .f32) (p : FVec Ideal S128x256 .f32) (t : Fin 256) :
    kAmax r p (ix2 0 t)
      = (Finset.univ : Finset (Fin 128)).fold max ⊥ (fun a => max (p (ix2 a t)) (-p (ix2 a t))) * r (ix2 0 t) * k448 := by
  pointwise [kAmax]
  rw [ofBits_neg_inf]
  rfl

/-- The exponent word of a value, at an index. -/
theorem kExp_apply (v : FVec Ideal S1x256 .f32) (t : Fin 256) : kExp v (ix2 0 t) = word (v (ix2 0 t)) := by
  have h : ∀ x : Fin 256, IntOp.shli ArithUnit.vector (BitVec.ofNat 32 x.val) 23#32 = field x.val := by decide +kernel
  pointwise [kExp]
  simp only [h]
  rfl

/-- The kernel's scale of a value, at an index. -/
theorem kScale_apply (v : FVec Ideal S1x256 .f32) (t : Fin 256) : kScale v (ix2 0 t) = scaleK (v (ix2 0 t)) := by
  pointwise [kScale, kWord]
  rw [kExp_apply, select_zero_word]
  rfl

/-- The kernel's reciprocal scale of a value, at an index. -/
theorem kInv_apply (v : FVec Ideal S1x256 .f32) (t : Fin 256) : kInv v (ix2 0 t) = invK (v (ix2 0 t)) := by
  pointwise [kInv, kWord]
  rw [kExp_apply, select_zero_word]
  rfl

/-- A clipped and transposed code, at an index. -/
theorem kCode_apply (r : FVec Ideal S1x256 .f32) (p : FVec Ideal S128x256 .f32) (v : FVec Ideal S1x256 .f32)
    (t : Fin 256) (a : Fin 128) :
    kCode r p v (ix2 t a) = min top (max bot (p (ix2 a t) * (r (ix2 0 t) * invK (v (ix2 0 t))))) := by
  pointwise [kCode]
  rw [kInv_apply]
  rfl

/-- A square of the tile, at an index. -/
theorem kSq_apply (x : Vec Ideal S16x128 .bf16) (i : Fin 16) (l : Fin 128) :
    kSq x (ix2 i l) = x (ix2 i l) * x (ix2 i l) := by
  pointwise [kSq]

/-- A sum of squares over the first blocks, at an index. -/
theorem kSum_apply (ld : ℕ → Vec Ideal S16x128 .bf16) (n : ℕ) (i : Fin 16) (l : Fin 128) :
    kSum ld n (ix2 i l) = ∑ b ∈ Finset.range (n + 1), ld b (ix2 i l) * ld b (ix2 i l) := by
  induction n with
  | zero => rw [Finset.sum_range_one]; exact kSq_apply _ _ _
  | succ n ih =>
    rw [Finset.sum_range_succ, ← ih]
    exact congrArg (kSum ld n (ix2 i l) + ·) (kSq_apply _ _ _)

/-- The named constant is one over the row length. -/
theorem inv_d : Named.named (F := Ideal) κ "inv_d" (φ := .f32) 0x38638E39#32 = ((18432⁻¹ : ℝ) : EReal) :=
  IdealRules.named_const.ideal_named_scalar κ "inv_d" (φ := .f32) 0x38638E39#32 _ rfl

/-- The rows' reciprocal roots, at an index. -/
theorem kRsqrt_apply (s : FVec Ideal S16x128 .f32) (i : Fin 16) (l : Fin 128) :
    kRsqrt s (ix2 i l) = Ideal.rsqrt ((∑ x : Fin 128, s (ix2 i x)) * ((18432⁻¹ : ℝ) : EReal) + eps) := by
  pointwise [kRsqrt]
  rw [inv_d]
  rfl
-- ==== Proof.PointValue.lean ====
module
public import proofs.«01_k».proof.Proof.Pieces
public import proofs.«01_k».proof.Proof.Rows
public import proofs.«01_k».proof.Proof.BlockValue
public import Idealize.ShloMosaic.Lib.WholeRead
public import Idealize.ShloMosaic.Lib.Pipeline.Value
public import Idealize.ShloMosaic.Lib.Pipeline.ValueKit.Tiles
@[expose] public section
set_option maxRecDepth 16384
/-! What the kernel's body leaves at one grid point, read at an index, on extended reals. -/
open Cert.KernelIdeal Cert.KernelIdeal.Gen Idealize.ShloMosaic Idealize.ShloMosaic.TcCoe Idealize.SL.Sem
namespace Cert.Proof.Point
open Cert.Proof.Exponent Cert.Proof.Block Cert.Proof.Pieces Cert.Proof.Rows
noncomputable section

/-- Column `a` of block `b`. -/
def col (b : Fin 144) (a : Fin 128) : Fin 18432 := ⟨128 * b.val + a.val, by have := b.isLt; have := a.isLt; omega⟩

/-- The block of a column. -/
def blk (c : Fin 18432) : Fin 144 := ⟨c.val / 128, by have := c.isLt; omega⟩

/-- A column's place in its block. -/
def lane (c : Fin 18432) : Fin 128 := ⟨c.val % 128, Nat.mod_lt _ (by decide)⟩

/-- The block of a column of a block. -/
theorem blk_col (b : Fin 144) (a : Fin 128) : blk (col b a) = b := by
  apply Fin.ext; have := a.isLt; show (128 * b.val + a.val) / 128 = b.val; omega

/-- The place of a column of a block. -/
theorem lane_col (b : Fin 144) (a : Fin 128) : lane (col b a) = a := by
  apply Fin.ext; have := a.isLt; show (128 * b.val + a.val) % 128 = a.val; omega

/-- A column is the one at its place in its block. -/
theorem col_blk_lane (c : Fin 18432) : col (blk c) (lane c) = c := by
  apply Fin.ext; show 128 * (c.val / 128) + c.val % 128 = c.val; omega

/-- A sum over a row is the sum over the lanes of the sums over the blocks. -/
theorem sum_cols (f : Fin 18432 → EReal) : ∑ c, f c = ∑ a : Fin 128, ∑ b : Fin 144, f (col b a) := by
  rw [Finset.sum_comm, ← Fintype.sum_prod_type' (f := fun (b : Fin 144) (a : Fin 128) => f (col b a))]
  exact (Fintype.sum_equiv
    { toFun := fun p : Fin 144 × Fin 128 => col p.1 p.2
      invFun := fun c => (blk c, lane c)
      left_inv := fun p => by simp only [blk_col, lane_col]
      right_inv := fun c => col_blk_lane c } _ _ (fun _ => rfl)).symm

/-- One over the root of a row's mean square and a millionth. -/
def norm (x : Fin 18432 → EReal) : EReal :=
  Ideal.rsqrt ((∑ c, x c * x c) * ((18432⁻¹ : ℝ) : EReal) + eps)

/-- The largest magnitude in block `b` of the weighted row. -/
def blockMax (x g : Fin 18432 → EReal) (b : Fin 144) : EReal :=
  (Finset.univ : Finset (Fin 128)).fold max ⊥
    (fun a => max (g (col b a) * x (col b a)) (-(g (col b a) * x (col b a))))

/-- A block's largest normalised magnitude over the largest code. -/
def amax (x g : Fin 18432 → EReal) (b : Fin 144) : EReal := blockMax x g b * norm x * k448

/-- A column's code. -/
def code (x g : Fin 18432 → EReal) (c : Fin 18432) : EReal :=
  min top (max bot (g c * x c * (norm x * invK (amax x g (blk c)))))

/-- A row of the tile. -/
def row (x0 : Vec Ideal S256x18432 .bf16) (t : Fin 256) : Fin 18432 → EReal := fun c => x0 (ix2 t c)

/-- The weight as one row. -/
def flat (g : Vec Ideal S144x128 .bf16) : Fin 18432 → EReal := fun c => g (ix2 (blk c) (lane c))

/-- The scratch: the weight's blocks, each on the diagonal of its own square. -/
def diag (g : Vec Ideal S144x128 .bf16) : Vec Ideal S18432x128 .bf16 :=
  fun y => if (y 0).val % 128 = (y 1).val then g (ix2 (blk (y 0)) (y 1)) else 0

/-! ### The lists' members -/

/-- The members of the codes' list are the blocks' pieces. -/
theorem mem_codeList {r : FVec Ideal S1x256 .f32} {p : ∀ b, b < 144 → FVec Ideal S128x256 .f32} :
    ∀ (n : ℕ) (h : n ≤ 144) (q : View.Piece (Elt Ideal) S256x18432 .fp8e4m3),
      q ∈ codeList r p n h ↔ ∃ b, ∃ hb : b < n, q = ⟨Rect.unit ![0, 128 * b] ![256, 128] (inb_col (Nat.lt_of_lt_of_le hb h)),
        kCode r (p b (Nat.lt_of_lt_of_le hb h)) (kAmax r (p b (Nat.lt_of_lt_of_le hb h)))⟩
  | 0, _, q => ⟨fun h => absurd h List.not_mem_nil, fun ⟨_, hb, _⟩ => absurd hb (Nat.not_lt_zero _)⟩
  | n + 1, h, q => by
    unfold codeList
    rw [List.mem_cons, mem_codeList n]
    constructor
    · rintro (rfl | ⟨b, hb, rfl⟩)
      · exact ⟨n, Nat.lt_succ_self n, rfl⟩
      · exact ⟨b, Nat.lt_succ_of_lt hb, rfl⟩
    · rintro ⟨b, hb, rfl⟩
      rcases Nat.lt_or_ge b n with hn | hn
      · exact Or.inr ⟨b, hn, rfl⟩
      · obtain rfl : b = n := by omega
        exact Or.inl rfl

/-- The members of the scales' list are the blocks' pieces. -/
theorem mem_scaleList {r : FVec Ideal S1x256 .f32} {p : ∀ b, b < 144 → FVec Ideal S128x256 .f32} :
    ∀ (n : ℕ) (h : n ≤ 144) (q : View.Piece (Elt Ideal) S144x256 .f32),
      q ∈ scaleList r p n h ↔ ∃ b, ∃ hb : b < n, q = ⟨Rect.unit ![b, 0] ![1, 256] (inb_row (Nat.lt_of_lt_of_le hb h)),
        kScale (kAmax r (p b (Nat.lt_of_lt_of_le hb h)))⟩
  | 0, _, q => ⟨fun h => absurd h List.not_mem_nil, fun ⟨_, hb, _⟩ => absurd hb (Nat.not_lt_zero _)⟩
  | n + 1, h, q => by
    unfold scaleList
    rw [List.mem_cons, mem_scaleList n]
    constructor
    · rintro (rfl | ⟨b, hb, rfl⟩)
      · exact ⟨n, Nat.lt_succ_self n, rfl⟩
      · exact ⟨b, Nat.lt_succ_of_lt hb, rfl⟩
    · rintro ⟨b, hb, rfl⟩
      rcases Nat.lt_or_ge b n with hn | hn
      · exact Or.inr ⟨b, hn, rfl⟩
      · obtain rfl : b = n := by omega
        exact Or.inl rfl

/-- The members of the scratch's list are the blocks' pieces. -/
theorem mem_diagList {g : ∀ b, b < 144 → Vec Ideal S1x128 .bf16} :
    ∀ (n : ℕ) (h : n ≤ 144) (q : View.Piece (Elt Ideal) S18432x128 .bf16),
      q ∈ diagList g n h ↔ ∃ b, ∃ hb : b < n, q = ⟨Rect.unit ![128 * b, 0] ![128, 128] (inb_diag (Nat.lt_of_lt_of_le hb h)),
        kDiag (g b (Nat.lt_of_lt_of_le hb h))⟩
  | 0, _, q => ⟨fun h => absurd h List.not_mem_nil, fun ⟨_, hb, _⟩ => absurd hb (Nat.not_lt_zero _)⟩
  | n + 1, h, q => by
    unfold diagList
    rw [List.mem_cons, mem_diagList n]
    constructor
    · rintro (rfl | ⟨b, hb, rfl⟩)
      · exact ⟨n, Nat.lt_succ_self n, rfl⟩
      · exact ⟨b, Nat.lt_succ_of_lt hb, rfl⟩
    · rintro ⟨b, hb, rfl⟩
      rcases Nat.lt_or_ge b n with hn | hn
      · exact Or.inr ⟨b, hn, rfl⟩
      · obtain rfl : b = n := by omega
        exact Or.inl rfl

/-! ### Rectangles and loads at an index -/

/-- An index of a unit rectangle over two axes. -/
theorem emb_unit {n0 n1 m0 m1 o0 o1 : ℕ} (inb : ∀ a, (![o0, o1] : Fin 2 → ℕ) a + (![m0, m1] : Fin 2 → ℕ) a ≤ (⟨2, ![n0, n1]⟩ : Shape).size a)
    (i : Fin m0) (j : Fin m1) (i' : Fin n0) (j' : Fin n1) (hi : i'.val = o0 + i.val) (hj : j'.val = o1 + j.val) :
    (Rect.unit (s := ⟨2, ![n0, n1]⟩) ![o0, o1] ![m0, m1] inb).idx (ix2 i j) = ix2 i' j' := by
  funext d
  apply Fin.ext
  rw [Rect.idx_unit_val]
  fin_cases d
  · exact hi.symm
  · exact hj.symm

/-- A load of a block of the tile, at an index. -/
theorem ldX_apply (arg1 : Memref sig .tc .vmem S256x18432 .bf16) (harg1 : arg1.IsWhole) (x0 : Vec Ideal S256x18432 .bf16)
    {b : ℕ} (h : b < 144) (t : Fin 256) (a : Fin 128) :
    ldX (F := Ideal) arg1 (harg1.unread x0) h (ix2 t a) = x0 (ix2 t (col ⟨b, h⟩ a)) :=
  (Memref.IsWhole.readAt_unread harg1 x0 _ _).trans
    (congrArg x0 (emb_unit (inb_col h) t a t (col ⟨b, h⟩ a) (Nat.zero_add _).symm rfl))

/-- A load of a block's square from the scratch, at an index. -/
theorem ldD_apply (arg5 : Memref sig .tc .vmem S18432x128 .bf16) (harg5 : arg5.IsWhole) (xs : Vec Ideal S18432x128 .bf16)
    {b : ℕ} (h : b < 144) (a k : Fin 128) :
    ldD (F := Ideal) arg5 (harg5.unread xs) h (ix2 a k) = xs (ix2 (col ⟨b, h⟩ a) k) :=
  (Memref.IsWhole.readAt_unread harg5 xs _ _).trans
    (congrArg xs (emb_unit (inb_diag h) a k (col ⟨b, h⟩ a) k rfl (Nat.zero_add _).symm))

/-- A load of a block of the weight, at an index. -/
theorem ldG_apply (arg2 : Memref sig .tc .vmem S144x128 .bf16) (harg2 : arg2.IsWhole) (x1 : Vec Ideal S144x128 .bf16)
    {b : ℕ} (h : b < 144) (k : Fin 128) :
    ldG (F := Ideal) arg2 (harg2.unread x1) h (ix2 0 k) = x1 (ix2 ⟨b, h⟩ k) :=
  (Memref.IsWhole.readAt_unread harg2 x1 _ _).trans
    (congrArg x1 (emb_unit _ 0 k ⟨b, h⟩ k rfl (Nat.zero_add _).symm))

/-- A load of sixteen rows of a block of the tile, at an index. -/
theorem ldT_apply (arg1 : Memref sig .tc .vmem S256x18432 .bf16) (harg1 : arg1.IsWhole) (x0 : Vec Ideal S256x18432 .bf16)
    (k : Fin k0_t1_loop.trips) (q : Fin 4) (b : Fin 144) (i : Fin 16) (l : Fin 128) (t : Fin 256) (ht : t.val = rowOff k q + i.val) :
    ldT (F := Ideal) arg1 (harg1.unread x0) k q b.val (ix2 i l) = x0 (ix2 t (col b l)) := by
  refine (Memref.IsWhole.readAt_unread harg1 x0 _ _).trans
    (congrArg x0 (emb_unit _ i l t (col b l) ht ?_))
  have := b.isLt
  show 128 * b.val + l.val = 128 * min b.val 143 + l.val
  rw [Nat.min_eq_left (by omega)]

/-- Entry `(128 b + a, k)` of the scratch. -/
theorem diag_apply (g : Vec Ideal S144x128 .bf16) (b : Fin 144) (a k : Fin 128) :
    diag g (ix2 (col b a) k) = if a = k then g (ix2 b k) else 0 := by
  have e : (col b a).val % 128 = a.val := congrArg Fin.val (lane_col b a)
  have e' : blk (col b a) = b := blk_col b a
  show (if (col b a).val % 128 = k.val then g (ix2 (blk (col b a)) k) else 0) = _
  rw [e, e']
  simp only [Fin.ext_iff]

/-! ### The row norms -/

variable (c : Dev nD) (i : grid0.Coords) (arg1 : Memref sig .tc .vmem S256x18432 .bf16) (harg1 : arg1.IsWhole) (arg2 : Memref sig .tc .vmem S144x128 .bf16) (harg2 : arg2.IsWhole) (arg3 : Memref sig .tc .vmem S256x18432 .fp8e4m3) (harg3 : arg3.IsWhole) (arg4 : Memref sig .tc .vmem S144x256 .f32) (harg4 : arg4.IsWhole) (arg5 : Memref sig .tc .vmem S18432x128 .bf16) (harg5 : arg5.IsWhole) (arg6 : Memref sig .tc .vmem S256x128 .f32) (harg6 : arg6.IsWhole)

/-- The members of the list of stores to the rows' factors. -/
theorem mem_pb (X : BufTy.Contents (Elt Ideal) arg1.view.ty) (q : View.Piece (Elt Ideal) S256x128 .f32) :
    ∀ (n : ℕ) (_ : n ≤ k0_t1_loop.trips),
      q ∈ pb_k0_t1 (F := Ideal) Variants.none c none i arg1 harg1 arg2 harg2 arg3 harg3 arg4 harg4 arg5 harg5 arg6 harg6 X n ↔
        ∃ k : Fin k0_t1_loop.trips, k.val < n ∧ ∃ j : Fin 4, q = tile arg1 X k j
  | 0, _ => ⟨fun h => absurd h (by rw [pb_k0_t1.eq_1]; exact List.not_mem_nil), fun ⟨_, hb, _⟩ => absurd hb (Nat.not_lt_zero _)⟩
  | n + 1, h => by
    rw [pb_k0_t1_succ (F := Ideal) Variants.none c none i arg1 harg1 arg2 harg2 arg3 harg3 arg4 harg4 arg5 harg5 arg6 harg6 X ⟨n, h⟩,
      trip_pieces, List.mem_append, mem_pb X q n (Nat.le_of_succ_le h)]
    constructor
    · rintro (hq | ⟨k, hk, hj⟩)
      · refine ⟨⟨n, h⟩, Nat.lt_succ_self n, ?_⟩
        simp only [List.mem_cons, List.not_mem_nil, or_false] at hq
        rcases hq with rfl | rfl | rfl | rfl
        · exact ⟨3, rfl⟩
        · exact ⟨2, rfl⟩
        · exact ⟨1, rfl⟩
        · exact ⟨0, rfl⟩
      · exact ⟨k, Nat.lt_succ_of_lt hk, hj⟩
    · rintro ⟨k, hk, j, rfl⟩
      rcases Nat.lt_or_ge k.val n with hn | hn
      · exact Or.inr ⟨k, hn, j, rfl⟩
      · obtain rfl : k = ⟨n, h⟩ := Fin.ext (by show k.val = n; omega)
        refine Or.inl ?_
        simp only [List.mem_cons, List.not_mem_nil, or_false]
        fin_cases j
        · exact Or.inr (Or.inr (Or.inr rfl))
        · exact Or.inr (Or.inr (Or.inl rfl))
        · exact Or.inr (Or.inl rfl)
        · exact Or.inl rfl

/-- Every lane of row `t` of the row loop's result is the row's inverse norm. -/
theorem canon_pb (x0 : Vec Ideal S256x18432 .bf16) (t : Fin 256) (l : Fin 128) :
    View.canon (pb_k0_t1 (F := Ideal) Variants.none c none i arg1 harg1 arg2 harg2 arg3 harg3 arg4 harg4 arg5 harg5 arg6 harg6
      (harg1.unread x0) k0_t1_loop.trips) (ix2 t l) = norm (row x0 t) := by
  refine View.canon_apply_of_pieces (Val := Elt Ideal) (S := S256x128) (e := .f32)
    (fun y => norm (row x0 (y 0))) _ ?_ _ ?_
  · intro p hp
    obtain ⟨k, _, q, rfl⟩ := (mem_pb c i arg1 harg1 arg2 harg2 arg3 harg3 arg4 harg4 arg5 harg5 arg6 harg6 _ p _ le_rfl).mp hp
    intro (y : S16x128.Idx)
    obtain ⟨u, l, rfl⟩ : ∃ u l, y = ix2 u l := ⟨_, _, (eq_ix2 y)⟩
    have hk : k.val < 4 := trips_eq ▸ k.isLt
    have hr := rowOff_eq k q
    have hq := q.isLt
    have hu := u.isLt
    let t : Fin 256 := ⟨rowOff k q + u.val, by omega⟩
    have e : (Rect.unit (s := S256x128) ![rowOff k q, 0] ![16, 128] (inb_out k q)).idx (ix2 u l) = ix2 t l :=
      emb_unit (inb_out k q) u l t l rfl (Nat.zero_add _).symm
    show kRsqrt (kSum (ldT arg1 (harg1.unread x0) k q) 143) (ix2 u l)
      = (fun y : S256x128.Idx => norm (row x0 (y 0))) ((Rect.unit (s := S256x128) ![rowOff k q, 0] ![16, 128] (inb_out k q)).idx (ix2 u l))
    rw [e, kRsqrt_apply]
    show _ = norm (row x0 t)
    unfold norm
    rw [sum_cols]
    refine congrArg (fun z => Ideal.rsqrt (z * ((18432⁻¹ : ℝ) : EReal) + eps)) (Finset.sum_congr rfl fun l _ => ?_)
    rw [kSum_apply, Finset.sum_range]
    refine Finset.sum_congr rfl fun b _ => ?_
    rw [ldT_apply arg1 harg1 x0 k q b u l t rfl]
    rfl
  · have ht := t.isLt
    let k : Fin k0_t1_loop.trips := ⟨t.val / 64, by rw [trips_eq]; omega⟩
    let q : Fin 4 := ⟨t.val % 64 / 16, by omega⟩
    refine ⟨tile arg1 _ k q, (mem_pb c i arg1 harg1 arg2 harg2 arg3 harg3 arg4 harg4 arg5 harg5 arg6 harg6 _ _ _ le_rfl).mpr ⟨k, k.isLt, q, rfl⟩, ?_⟩
    refine (Rect.mem_set_unit (inb := inb_out k q)).mpr ?_
    have hr : rowOff k q = 64 * (t.val / 64) + 16 * (t.val % 64 / 16) := rowOff_eq k q
    intro d; fin_cases d
    · change rowOff k q ≤ t.val ∧ t.val < rowOff k q + 16
      omega
    · exact ⟨Nat.zero_le _, by change l.val < 0 + 128; have := l.isLt; omega⟩

/-- Lane `t` of the row of inverse norms. -/
theorem rowNorm_apply (x0 : Vec Ideal S256x18432 .bf16) (t : Fin 256) :
    rowNorm (F := Ideal) c i arg1 harg1 arg2 harg2 arg3 harg3 arg4 harg4 arg5 harg5 arg6 harg6 x0 (ix2 0 t) = norm (row x0 t) := by
  unfold rowNorm
  rw [kNorm_apply]
  split
  · rename_i h
    rw [View.readCov_eq_canon']
    refine Eq.trans (congrArg _ ?_) (canon_pb c i arg1 harg1 arg2 harg2 arg3 harg3 arg4 harg4 arg5 harg5 arg6 harg6 x0 t 0)
    exact emb_unit (m0 := 128) (m1 := 128) _ ⟨t.val, h⟩ 0 t 0 (Nat.zero_add _).symm rfl
  · rename_i h
    rw [View.readCov_eq_canon']
    refine Eq.trans (congrArg _ ?_) (canon_pb c i arg1 harg1 arg2 harg2 arg3 harg3 arg4 harg4 arg5 harg5 arg6 harg6 x0 t 0)
    exact emb_unit (m0 := 128) (m1 := 128) _ ⟨t.val - 128, by have := t.isLt; omega⟩ 0 t 0 (by show t.val = 128 + (t.val - 128); omega) rfl

/-! ### The three lists read back -/

/-- The scratch after the first point's stores. -/
theorem canon_diags (x1 : Vec Ideal S144x128 .bf16) :
    View.canon (diagList (fun b h => ldG (F := Ideal) arg2 (harg2.unread x1) h) 144 (Nat.le_refl _)) = diag x1 := by
  funext y
  refine View.canon_apply_of_pieces (Val := Elt Ideal) (S := S18432x128) (e := .bf16) (diag x1) _ ?_ _ ?_
  · intro p hp
    obtain ⟨b, hb, rfl⟩ := (mem_diagList _ _ p).mp hp
    intro (y : S128x128.Idx)
    obtain ⟨a, k, rfl⟩ : ∃ a k, y = ix2 a k := ⟨_, _, (eq_ix2 y)⟩
    have e : (Rect.unit (s := S18432x128) ![128 * b, 0] ![128, 128] (inb_diag hb)).idx (ix2 a k) = ix2 (col ⟨b, hb⟩ a) k :=
      emb_unit (inb_diag hb) a k (col ⟨b, hb⟩ a) k rfl (Nat.zero_add _).symm
    show kDiag (ldG (F := Ideal) arg2 (harg2.unread x1) hb) (ix2 a k)
      = diag x1 ((Rect.unit (s := S18432x128) ![128 * b, 0] ![128, 128] (inb_diag hb)).idx (ix2 a k))
    rw [e, kDiag_apply, diag_apply, ldG_apply]
  · obtain ⟨a, k, rfl⟩ : ∃ a k, y = ix2 a k := ⟨_, _, (eq_ix2 y)⟩
    refine ⟨_, (mem_diagList _ _ _).mpr ⟨(blk a).val, (blk a).isLt, rfl⟩, ?_⟩
    refine (Rect.mem_set_unit (inb := inb_diag (blk a).isLt)).mpr ?_
    intro d; fin_cases d
    · change 128 * (a.val / 128) ≤ a.val ∧ a.val < 128 * (a.val / 128) + 128
      omega
    · exact ⟨Nat.zero_le _, by change k.val < 0 + 128; have := k.isLt; omega⟩

/-- A block's square read back from the scratch, after the stores to it, at an index. -/
theorem backD_apply (x1 : Vec Ideal S144x128 .bf16) {b : ℕ} (h : b < 144) (a k : Fin 128) :
    backD (F := Ideal) arg2 harg2 arg5 x1 h (ix2 a k) = if a = k then x1 (ix2 ⟨b, h⟩ k) else 0 := by
  unfold backD
  rw [View.readCov_eq_canon', canon_diags]
  refine Eq.trans (congrArg _ ?_) (diag_apply x1 ⟨b, h⟩ a k)
  exact emb_unit (inb_diag h) a k (col ⟨b, h⟩ a) k rfl (Nat.zero_add _).symm

variable (r : FVec Ideal S1x256 .f32) (p : ∀ b, b < 144 → FVec Ideal S128x256 .f32) (x0 : Vec Ideal S256x18432 .bf16) (x1 : Vec Ideal S144x128 .bf16)
  (hr : ∀ t, r (ix2 0 t) = norm (row x0 t))
  (hp : ∀ b h a t, p b h (ix2 a t) = flat x1 (col ⟨b, h⟩ a) * row x0 t (col ⟨b, h⟩ a))
include hr hp

/-- The body's largest magnitude of a block is the row's. -/
theorem kAmax_of (b : ℕ) (h : b < 144) (t : Fin 256) : kAmax r (p b h) (ix2 0 t) = amax (row x0 t) (flat x1) ⟨b, h⟩ := by
  rw [kAmax_apply]
  simp only [hp, hr]
  rfl

/-- The codes a point stores. -/
theorem canon_codes (t : Fin 256) (j : Fin 18432) :
    View.canon (codeList r p 144 (Nat.le_refl _)) (ix2 t j) = code (row x0 t) (flat x1) j := by
  refine View.canon_apply_of_pieces (Val := Elt Ideal) (S := S256x18432) (e := .fp8e4m3)
    (fun y => code (row x0 (y 0)) (flat x1) (y 1)) _ ?_ _ ?_
  · intro q hq
    obtain ⟨b, hb, rfl⟩ := (mem_codeList _ _ q).mp hq
    intro (y : S256x128.Idx)
    obtain ⟨t, a, rfl⟩ : ∃ a k, y = ix2 a k := ⟨_, _, (eq_ix2 y)⟩
    have e : (Rect.unit (s := S256x18432) ![0, 128 * b] ![256, 128] (inb_col hb)).idx (ix2 t a) = ix2 t (col ⟨b, hb⟩ a) :=
      emb_unit (inb_col hb) t a t (col ⟨b, hb⟩ a) (Nat.zero_add _).symm rfl
    show kCode r (p b hb) (kAmax r (p b hb)) (ix2 t a)
      = (fun y : S256x18432.Idx => code (row x0 (y 0)) (flat x1) (y 1)) ((Rect.unit (s := S256x18432) ![0, 128 * b] ![256, 128] (inb_col hb)).idx (ix2 t a))
    rw [e, kCode_apply, hp, hr, kAmax_of r p x0 x1 hr hp]
    show _ = code (row x0 t) (flat x1) (col ⟨b, hb⟩ a)
    unfold code
    rw [blk_col]
  · refine ⟨_, (mem_codeList _ _ _).mpr ⟨(blk j).val, (blk j).isLt, rfl⟩, ?_⟩
    refine (Rect.mem_set_unit (inb := inb_col (blk j).isLt)).mpr ?_
    intro d; fin_cases d
    · exact ⟨Nat.zero_le _, by change t.val < 0 + 256; have := t.isLt; omega⟩
    · change 128 * (j.val / 128) ≤ j.val ∧ j.val < 128 * (j.val / 128) + 128
      omega

/-- The scales a point stores. -/
theorem canon_scales (b : Fin 144) (t : Fin 256) :
    View.canon (scaleList r p 144 (Nat.le_refl _)) (ix2 b t) = scaleK (amax (row x0 t) (flat x1) b) := by
  refine View.canon_apply_of_pieces (Val := Elt Ideal) (S := S144x256) (e := .f32)
    (fun y => scaleK (amax (row x0 (y 1)) (flat x1) (y 0))) _ ?_ _ ?_
  · intro q hq
    obtain ⟨b, hb, rfl⟩ := (mem_scaleList _ _ q).mp hq
    intro (y : S1x256.Idx)
    obtain ⟨u, t, rfl⟩ : ∃ a k, y = ix2 a k := ⟨_, _, (eq_ix2 y)⟩
    obtain rfl : u = 0 := Subsingleton.elim (α := Fin 1) u 0
    have e : (Rect.unit (s := S144x256) ![b, 0] ![1, 256] (inb_row hb)).idx (ix2 0 t) = ix2 ⟨b, hb⟩ t :=
      emb_unit (m0 := 1) (m1 := 256) (inb_row hb) 0 t ⟨b, hb⟩ t rfl (Nat.zero_add _).symm
    show kScale (kAmax r (p b hb)) (ix2 0 t)
      = (fun y : S144x256.Idx => scaleK (amax (row x0 (y 1)) (flat x1) (y 0))) ((Rect.unit (s := S144x256) ![b, 0] ![1, 256] (inb_row hb)).idx (ix2 0 t))
    rw [e, kScale_apply, kAmax_of r p x0 x1 hr hp]
    rfl
  · refine ⟨_, (mem_scaleList _ _ _).mpr ⟨b.val, b.isLt, rfl⟩, ?_⟩
    refine (Rect.mem_set_unit (inb := inb_row b.isLt)).mpr ?_
    intro d; fin_cases d
    · change b.val ≤ b.val ∧ b.val < b.val + 1
      omega
    · exact ⟨Nat.zero_le _, by change t.val < 0 + 256; have := t.isLt; omega⟩

end
end Cert.Proof.Point
-- ==== Proof.KernelValue.lean ====
module
public import proofs.«01_k».proof.Proof.PointValue
public import proofs.«01_k».proof.Proof.Gen.KernelIdeal.Value
public import Idealize.ShloMosaic.Lib.StableHlo.ReadAt
public import Idealize.ShloMosaic.Lib.Pointwise
@[expose] public section
set_option maxRecDepth 16384
/-! What the kernel's two result arrays hold after the run, at an index, as terms over the arguments. -/
open Cert.KernelIdeal Cert.KernelIdeal.Gen Cert.KernelIdeal.Value Idealize.ShloMosaic Idealize.ShloMosaic.TcCoe Idealize.SL.Sem
namespace Cert.Proof.KernelValue
open Cert.Proof.Exponent Cert.Proof.Block Cert.Proof.Pieces Cert.Proof.Rows Cert.Proof.Point
noncomputable section

/-! ### One point, from its blocks -/

section
variable (c : Dev nD) (i : grid0.Coords) (arg1 : Memref sig .tc .vmem S256x18432 .bf16) (harg1 : arg1.IsWhole) (arg2 : Memref sig .tc .vmem S144x128 .bf16) (harg2 : arg2.IsWhole) (arg3 : Memref sig .tc .vmem S256x18432 .fp8e4m3) (harg3 : arg3.IsWhole) (arg4 : Memref sig .tc .vmem S144x256 .f32) (harg4 : arg4.IsWhole) (arg5 : Memref sig .tc .vmem S18432x128 .bf16) (harg5 : arg5.IsWhole) (arg6 : Memref sig .tc .vmem S256x128 .f32) (harg6 : arg6.IsWhole)
  (x0 : Vec Ideal S256x18432 .bf16) (x1 : Vec Ideal S144x128 .bf16)

/-- The first point's products: weight times entry. -/
theorem prod_A (b : ℕ) (h : b < 144) (a : Fin 128) (t : Fin 256) :
    kProd (F := Ideal) (ldX arg1 (harg1.unread x0) h) (backD arg2 harg2 arg5 x1 h) (ix2 a t)
      = flat x1 (col ⟨b, h⟩ a) * row x0 t (col ⟨b, h⟩ a) := by
  have hw : ∀ a : Fin 128, flat x1 (col ⟨b, h⟩ a) = x1 (ix2 ⟨b, h⟩ a) := fun a => by
    unfold flat; rw [blk_col, lane_col]
  rw [kProd_diag _ _ (fun k => x1 (ix2 ⟨b, h⟩ k)) _, ldX_apply, hw]
  · rfl
  · intro a k
    rw [backD_apply]

/-- A later point's products, from the scratch: weight times entry. -/
theorem prod_B (b : ℕ) (h : b < 144) (a : Fin 128) (t : Fin 256) :
    kProd (F := Ideal) (ldX arg1 (harg1.unread x0) h) (ldD arg5 (harg5.unread (diag x1)) h) (ix2 a t)
      = flat x1 (col ⟨b, h⟩ a) * row x0 t (col ⟨b, h⟩ a) := by
  have hw : ∀ a : Fin 128, flat x1 (col ⟨b, h⟩ a) = x1 (ix2 ⟨b, h⟩ a) := fun a => by
    unfold flat; rw [blk_col, lane_col]
  rw [kProd_diag _ _ (fun k => x1 (ix2 ⟨b, h⟩ k)) _, ldX_apply, hw]
  · rfl
  · intro a k
    rw [ldD_apply, diag_apply]

/-- At the first point, the codes the body leaves. -/
theorem outA_codes (hc0 : cond0_0 i) (t : Fin 256) (j : Fin 18432) :
    out0_A_2 (F := Ideal) c i arg1 harg1 arg2 harg2 arg3 harg3 arg4 harg4 arg5 harg5 arg6 harg6 hc0 x0 x1 (ix2 t j) = code (row x0 t) (flat x1) j := by
  unfold out0_A_2
  rw [View.read_writes_junk_eq_canon, codes_A]
  exact canon_codes _ _ x0 x1 (rowNorm_apply c i arg1 harg1 arg2 harg2 arg3 harg3 arg4 harg4 arg5 harg5 arg6 harg6 x0)
    (prod_A arg1 harg1 arg2 harg2 arg5 x0 x1) t j

/-- At the first point, the scales the body leaves. -/
theorem outA_scales (hc0 : cond0_0 i) (b : Fin 144) (t : Fin 256) :
    out0_A_3 (F := Ideal) c i arg1 harg1 arg2 harg2 arg3 harg3 arg4 harg4 arg5 harg5 arg6 harg6 hc0 x0 x1 (ix2 b t) = scaleK (amax (row x0 t) (flat x1) b) := by
  unfold out0_A_3
  rw [View.read_writes_junk_eq_canon, scales_A]
  exact canon_scales _ _ x0 x1 (rowNorm_apply c i arg1 harg1 arg2 harg2 arg3 harg3 arg4 harg4 arg5 harg5 arg6 harg6 x0)
    (prod_A arg1 harg1 arg2 harg2 arg5 x0 x1) b t

/-- At the first point, the squares the body leaves in the scratch. -/
theorem outA_scratch (hc0 : cond0_0 i) :
    sout0_A_0 (F := Ideal) c i arg1 harg1 arg2 harg2 arg3 harg3 arg4 harg4 arg5 harg5 arg6 harg6 hc0 x0 x1 = diag x1 := by
  unfold sout0_A_0
  rw [View.read_writes_junk_eq_canon, diags_A, canon_diags]

/-- At a later point, where the scratch holds the squares, the codes the body leaves. -/
theorem outB_codes (hc0 : ¬cond0_0 i) (t : Fin 256) (j : Fin 18432) :
    out0_B_2 (F := Ideal) c i arg1 harg1 arg2 harg2 arg3 harg3 arg4 harg4 arg5 harg5 arg6 harg6 hc0 x0 x1 (diag x1) (ix2 t j) = code (row x0 t) (flat x1) j := by
  unfold out0_B_2
  rw [View.read_writes_junk_eq_canon, codes_B]
  exact canon_codes _ _ x0 x1 (rowNorm_apply c i arg1 harg1 arg2 harg2 arg3 harg3 arg4 harg4 arg5 harg5 arg6 harg6 x0)
    (prod_B arg1 harg1 arg5 harg5 x0 x1) t j

/-- At a later point, where the scratch holds the squares, the scales the body leaves. -/
theorem outB_scales (hc0 : ¬cond0_0 i) (b : Fin 144) (t : Fin 256) :
    out0_B_3 (F := Ideal) c i arg1 harg1 arg2 harg2 arg3 harg3 arg4 harg4 arg5 harg5 arg6 harg6 hc0 x0 x1 (diag x1) (ix2 b t) = scaleK (amax (row x0 t) (flat x1) b) := by
  unfold out0_B_3
  rw [View.read_writes_junk_eq_canon, scales_B]
  exact canon_scales _ _ x0 x1 (rowNorm_apply c i arg1 harg1 arg2 harg2 arg3 harg3 arg4 harg4 arg5 harg5 arg6 harg6 x0)
    (prod_B arg1 harg1 arg5 harg5 x0 x1) b t
end

/-! ### The points' blocks -/

variable (m : (ℓ : Loc nD τ sig) → Buf (Elt Ideal) ℓ) (c : Dev nD)

/-- Row `R` of the first argument, its two leading axes read as one. -/
def xrow (R : Fin 8192) : Fin 18432 → EReal := fun j =>
  m ((c : Thread nD τ).loc main_arg0) (ix3 (⟨R.val / 4096, by have := R.isLt; omega⟩ : Fin 2) (⟨R.val % 4096, Nat.mod_lt _ (by decide)⟩ : Fin 4096) j)

/-- The second argument. -/
def gamma : Fin 18432 → EReal := fun j => m ((c : Thread nD τ).loc main_arg1) (ix1 j)

/-- The region's first operand is the activations with their two leading axes as one. -/
theorem V_x (R : Fin 8192) (j : Fin 18432) : V m c main_v0 (ix2 R j) = xrow m c R j := by
  unfold V xrow
  after_reads_at

/-- The region's second operand is the weight in blocks. -/
theorem V_g (b : Fin 144) (a : Fin 128) : V m c main_v1 (ix2 b a) = gamma m c (col b a) := by
  unfold V gamma col
  after_reads_at
  exact congrArg (fun j => m (c, Proc.tc.devRef main_arg1) (ix1 j)) (Fin.ext (by show b.val * 128 + a.val = 128 * b.val + a.val; omega))

/-- The activations' block moves with the point. -/
theorem index_x : ∀ t : Fin cfg0.N, win0_0.index t (0 : Fin 2) = t.val ∧ win0_0.index t (1 : Fin 2) = 0 :=
  (by decide +kernel : ∀ t : Fin grid0.N, _)

/-- The weight's block stays. -/
theorem index_g : ∀ t : Fin cfg0.N, win0_1.index t (0 : Fin 2) = 0 ∧ win0_1.index t (1 : Fin 2) = 0 :=
  (by decide +kernel : ∀ t : Fin grid0.N, _)

/-- The activations' block at a point, at an index. -/
theorem iblk_x (t : Fin cfg0.N) (u : Fin 256) (j : Fin 18432) (R : Fin 8192) (hR : R.val = 256 * t.val + u.val) :
    (iblk m c 0 t : Vec Ideal S256x18432 .bf16) (ix2 u j) = xrow m c R j := by
  rw [← V_x]
  show V m c main_v0 (((cfg0.win 0).blk t).view.emb (ix2 u j)) = V m c main_v0 (ix2 R j)
  refine congrArg _ (funext fun d => Fin.ext ?_)
  obtain ⟨e0, e1⟩ := index_x t
  have hb0 : (((cfg0.win 0).blk t).view.emb (ix2 u j) 0).val = win0_0.index t (0 : Fin 2) * 256 + 1 * u.val := rfl
  have hb1 : (((cfg0.win 0).blk t).view.emb (ix2 u j) 1).val = win0_0.index t (1 : Fin 2) * 18432 + 1 * j.val := rfl
  match d with
  | ⟨0, _⟩ => show (((cfg0.win 0).blk t).view.emb (ix2 u j) 0).val = R.val; rw [hb0, e0, hR]; omega
  | ⟨1, _⟩ => show (((cfg0.win 0).blk t).view.emb (ix2 u j) 1).val = j.val; rw [hb1, e1]; omega

/-- The weight's block at a point, at an index. -/
theorem iblk_g (t : Fin cfg0.N) (b : Fin 144) (a : Fin 128) :
    (iblk m c 1 t : Vec Ideal S144x128 .bf16) (ix2 b a) = gamma m c (col b a) := by
  rw [← V_g]
  show V m c main_v1 (((cfg0.win 1).blk t).view.emb (ix2 b a)) = V m c main_v1 (ix2 b a)
  refine congrArg _ (funext fun d => Fin.ext ?_)
  obtain ⟨e0, e1⟩ := index_g t
  have hb0 : (((cfg0.win 1).blk t).view.emb (ix2 b a) 0).val = win0_1.index t (0 : Fin 2) * 144 + 1 * b.val := rfl
  have hb1 : (((cfg0.win 1).blk t).view.emb (ix2 b a) 1).val = win0_1.index t (1 : Fin 2) * 128 + 1 * a.val := rfl
  match d with
  | ⟨0, _⟩ => show (((cfg0.win 1).blk t).view.emb (ix2 b a) 0).val = b.val; rw [hb0, e0]; omega
  | ⟨1, _⟩ => show (((cfg0.win 1).blk t).view.emb (ix2 b a) 1).val = a.val; rw [hb1, e1]; omega

/-- The weight's block is the same at every point. -/
theorem iblk_g_eq (t t' : Fin cfg0.N) : (iblk m c 1 t : Vec Ideal S144x128 .bf16) = iblk m c 1 t' := by
  funext y
  obtain ⟨b, a, rfl⟩ : ∃ b a, y = ix2 b a := ⟨_, _, eq_ix2 y⟩
  rw [iblk_g, iblk_g]

/-- The weight's block as one row is the weight. -/
theorem flat_iblk (t : Fin cfg0.N) : flat (iblk m c 1 t) = gamma m c := by
  funext j
  unfold flat
  rw [iblk_g, col_blk_lane]

/-- A row of the activations' block is a row of the activations. -/
theorem row_iblk (t : Fin cfg0.N) (u : Fin 256) (R : Fin 8192) (hR : R.val = 256 * t.val + u.val) :
    row (iblk m c 0 t) u = xrow m c R := by
  funext j
  exact iblk_x m c t u j R hR

/-! ### Every point -/

/-- After every point the scratch holds the weight's blocks on their diagonals. -/
theorem scratch_at : ∀ (n : ℕ) (hn : n < cfg0.N), (outsAt0 m c n hn).2.2 = diag (iblk m c 1 ⟨n, hn⟩)
  | 0, hn => by
    rw [outsAt0_A m c ⟨0, hn⟩ rfl]
    dsimp only; rw [outA_scratch]
  | n + 1, hn => by
    by_cases h0 : (n + 1) % 32 = 0
    · rw [outsAt0_A m c ⟨n + 1, hn⟩ h0]
      dsimp only; rw [outA_scratch]
    · rw [outsAt0_B m c ⟨n + 1, hn⟩ h0]
      exact (scratch_at n (Nat.lt_of_succ_lt hn)).trans (congrArg diag (iblk_g_eq m c _ _))

/-- The codes a point leaves. -/
theorem codes_at (t : Fin cfg0.N) (u : Fin 256) (j : Fin 18432) :
    (outsAt0 m c t.val t.isLt).1 (ix2 u j) = code (row (iblk m c 0 t) u) (flat (iblk m c 1 t)) j := by
  by_cases h0 : t.val % 32 = 0
  · rw [outsAt0_A m c t h0]
    dsimp only; rw [outA_codes]
  · have hd : (outsAt0 m c (t.val - 1) (Nat.lt_of_le_of_lt (Nat.sub_le _ _) t.isLt)).2.2 = diag (iblk m c 1 t) :=
      (scratch_at m c _ _).trans (congrArg diag (iblk_g_eq m c _ _))
    rw [outsAt0_B m c t h0, hd]
    dsimp only; rw [outB_codes]

/-- The scales a point leaves. -/
theorem scales_at (t : Fin cfg0.N) (b : Fin 144) (u : Fin 256) :
    (outsAt0 m c t.val t.isLt).2.1 (ix2 b u) = scaleK (amax (row (iblk m c 0 t) u) (flat (iblk m c 1 t)) b) := by
  by_cases h0 : t.val % 32 = 0
  · rw [outsAt0_A m c t h0]
    dsimp only; rw [outA_scales]
  · have hd : (outsAt0 m c (t.val - 1) (Nat.lt_of_le_of_lt (Nat.sub_le _ _) t.isLt)).2.2 = diag (iblk m c 1 t) :=
      (scratch_at m c _ _).trans (congrArg diag (iblk_g_eq m c _ _))
    rw [outsAt0_B m c t h0, hd]
    dsimp only; rw [outB_scales]

/-! ### The arrays after the run -/

/-- The first result. -/
theorem G2_apply (R : Fin 8192) (j : Fin 18432) : G2 m c (ix2 R j) = code (xrow m c R) (gamma m c) j := by
  have hR := R.isLt
  have hj := j.isLt
  have hp : pt2Of (ix2 R j) = R.val / 256 := by
    show 1 * (R.val / 256 - 0) + 1 * (j.val / 18432 - 0) = _; omega
  have hlt : pt2Of (ix2 R j) < cfg0.N := by rw [hp, show cfg0.N = 32 from N_0]; omega
  have hl : loc2Of (ix2 R j) = ix2 (⟨R.val % 256, Nat.mod_lt _ (by decide)⟩ : Fin 256) j := by
    funext a; apply Fin.ext
    match a with
    | ⟨0, _⟩ => rfl
    | ⟨1, _⟩ => show j.val % 18432 = j.val; omega
  unfold G2
  rw [dif_pos hlt, ← outsAt0_sweep m c _ hlt, hl, codes_at m c ⟨_, hlt⟩, flat_iblk,
    row_iblk m c ⟨_, hlt⟩ _ R (by show R.val = 256 * pt2Of (ix2 R j) + R.val % 256; rw [hp]; omega)]

/-- The second result. -/
theorem G3_apply (b : Fin 144) (R : Fin 8192) : G3 m c (ix2 b R) = scaleK (amax (xrow m c R) (gamma m c) b) := by
  have hR := R.isLt
  have hb := b.isLt
  have hp : pt3Of (ix2 b R) = R.val / 256 := by
    show 32 * (b.val / 144 - 0) + 1 * (R.val / 256 - 0) = _; omega
  have hlt : pt3Of (ix2 b R) < cfg0.N := by rw [hp, show cfg0.N = 32 from N_0]; omega
  have hl : loc3Of (ix2 b R) = ix2 b (⟨R.val % 256, Nat.mod_lt _ (by decide)⟩ : Fin 256) := by
    funext a; apply Fin.ext
    match a with
    | ⟨0, _⟩ => show b.val % 144 = b.val; omega
    | ⟨1, _⟩ => rfl
  unfold G3
  rw [dif_pos hlt, ← outsAt0_sweep m c _ hlt, hl, scales_at m c ⟨_, hlt⟩, flat_iblk,
    row_iblk m c ⟨_, hlt⟩ _ R (by show R.val = 256 * pt3Of (ix2 b R) + R.val % 256; rw [hp]; omega)]

end
end Cert.Proof.KernelValue
-- ==== Proof.ReferenceValue.lean ====
/- What the reference computes, read at an index, on extended reals. -/
module

public import proofs.«01_k».proof.Proof.Gen.ReferenceIdeal.Value
public import proofs.«01_k».proof.Proof.PointValue
public import Idealize.ShloMosaic.Lib.StableHlo.ReadAt
public import Idealize.ShloMosaic.Lib.StableHlo.RunLoop
public import Idealize.ShloMosaic.Lib.Pointwise

@[expose] public section

set_option maxRecDepth 16384

noncomputable section

namespace Cert.Proof.ReferenceValue

open Cert.ReferenceIdeal Cert.ReferenceIdeal.Gen Cert.ReferenceIdeal.Value Idealize.ShloMosaic Idealize.ShloMosaic.TcCoe Idealize.SL.Sem
open Cert.Proof.Exponent Cert.Proof.Block
open Cert.Proof.Point (col blk lane col_blk_lane)

/-! ## The constants -/

/-- The pattern of one. -/
theorem ofBits_one : Ideal.ofBits .f32 1065353216#32 = 1 := by
  rw [show (1065353216#32 : BitVec 32) = field 127 by decide +kernel]
  refine (ieee_field 127 (by omega) (by omega)).trans ?_
  norm_num

/-- The pattern of two. -/
theorem ofBits_two : Ideal.ofBits .f32 1073741824#32 = ((2 : ℝ) : EReal) := by
  rw [show (1073741824#32 : BitVec 32) = field 128 by decide +kernel]
  refine (ieee_field 128 (by omega) (by omega)).trans ?_
  norm_num

/-- The pattern of the least normal float. -/
theorem ofBits_tiny : Ideal.ofBits .f32 0x00800000#32 = (((2 : ℝ) ^ (-126 : ℤ) : ℝ) : EReal) := by
  rw [show (0x00800000#32 : BitVec 32) = field 1 by decide +kernel]
  refine (ieee_field 1 (by omega) (by omega)).trans ?_
  norm_num

/-- The pattern of plus infinity. -/
theorem ofBits_inf : Ideal.ofBits .f32 2139095040#32 = ⊤ := by
  rw [show (2139095040#32 : BitVec 32) = field 255 by decide +kernel]
  exact ieee_field_top

/-- The row length, as a float. -/
theorem ofBits_width : Ideal.ofBits .f32 1183842304#32 = ((18432 : ℝ) : EReal) := by
  have e : ((1183842304#32 : BitVec 32).extractLsb' 31 1 == 1#1) = false ∧ ((1183842304#32 : BitVec 32).extractLsb' 23 8).toNat = 141
      ∧ ((1183842304#32 : BitVec 32).extractLsb' 0 23).toNat = 1048576 := by decide +kernel
  unfold Ideal.ofBits Ideal.ieee
  simp only [Nat.reduceAdd, e.1, e.2.1, e.2.2]
  norm_num

/-- The exponents the reference's powers of two range over. -/
theorem toInt_exponent : ∀ k : Fin 253, (IntOp.addi 4294967171#32 (BitVec.ofNat 32 k.val)).toInt = (k.val : ℤ) - 125 := by
  decide +kernel

/-- One of the reference's powers of two. -/
theorem pow_two (k : Fin 253) :
    Ideal.pow (Ideal.ofBits .f32 1073741824#32) (FloatOps.sitofp (F := Ideal) .f32 (IntOp.addi 4294967171#32 (BitVec.ofNat 32 k.val)))
      = (((2 : ℝ) ^ ((k.val : ℤ) - 125) : ℝ) : EReal) := by
  rw [ofBits_two]
  show Ideal.pow ((2 : ℝ) : EReal) ((((IntOp.addi 4294967171#32 (BitVec.ofNat 32 k.val)).toInt : ℝ)) : EReal) = _
  rw [toInt_exponent k]
  show ((Real.rpow 2 (((k.val : ℤ) - 125 : ℤ) : ℝ) : ℝ) : EReal) = _
  exact congrArg _ (Real.rpow_intCast 2 _)

/-! ## The reference's functions of one row -/

/-- The reciprocal root mean square of a row, as the reference writes it. -/
def normR (x : Fin 18432 → EReal) : EReal :=
  Ideal.rsqrt (Ideal.div (∑ c, x c * x c) (Ideal.ofBits .f32 1183842304#32) + eps)

/-- A normalised, weighted element of a row. -/
def y (x g : Fin 18432 → EReal) (c : Fin 18432) : EReal := x c * normR x * g c

/-- A block's largest magnitude over the largest code. -/
def amaxR (x g : Fin 18432 → EReal) (b : Fin 144) : EReal :=
  (Finset.univ : Finset (Fin 128)).fold max ⊥ (fun a => max (y x g (col b a)) (-(y x g (col b a)))) * k448

/-- A column's code. -/
def codeR (x g : Fin 18432 → EReal) (c : Fin 18432) : EReal :=
  min top (max bot (y x g c * Ideal.div 1 (scaleR (amaxR x g (blk c)))))

/-! ## The largest magnitudes of the blocks -/

/-- The host's maximum over the last axis of a rank-3 value, from any initial value, is a fold over that axis. -/
theorem hostMax_apply {n0 n1 n2 : Nat} {u : Shape} (X : FVec Ideal ⟨3, ![n0, n1, n2]⟩ .f32) (init : FVec Ideal u .f32)
    (h : (⟨3, ![n0, n1, n2]⟩ : Shape).ReducesTo [2] ⟨2, ![n0, n1]⟩) (hu : 0 < u.numel) (R : Fin n0) (b : Fin n1) :
    Host.reduce FloatOps.maximumf X init h hu (ix2 R b)
      = Finset.univ.fold max (init (Shape.Idx.first hu)) (fun a : Fin n2 => X (ix3 R b a)) := by
  rw [Host.reduce_eq_fold, Shape.ReducesTo.fold_fiber_r3_a2]
  rfl

/-- A product at an index. -/
theorem mulf_ix {s : Shape} (x y : FVec Ideal s .f32) (i : s.Idx) : mulf x y i = x i * y i := rfl

/-- A magnitude at an index. -/
theorem absf_ix {s : Shape} (x : FVec Ideal s .f32) (i : s.Idx) : Host.absf x i = max (x i) (-x i) := rfl

/-- A constant at an index. -/
theorem constant_ix {s : Shape} (w : BitVec 32) (i : s.Idx) : constant (F := Ideal) s .f32 w i = Ideal.ofBits .f32 w := rfl

/-- A constant over the blocks, at an index. -/
theorem bcast_ix (w : BitVec 32) (i : S8192x144.Idx) :
    broadcastInDim S8192x144 ![] bcast_S_S8192x144 (constant (F := Ideal) S_ .f32 w) i = Ideal.ofBits .f32 w := rfl

/-- The largest magnitudes of the blocks, over the largest code. -/
def bmax (Y : FVec Ideal S8192x144x128 .f32) : FVec Ideal S8192x144 .f32 :=
  mulf (Host.reduce FloatOps.maximumf (Host.absf Y) (constant S_ .f32 0xFF800000#32) reducesTo_S8192x144x128_S8192x144_d2 h_S_)
    (broadcastInDim S8192x144 ![] bcast_S_S8192x144 (constant S_ .f32 0x3B124925#32))

/-- The same, at an index. -/
theorem bmax_apply (Y : FVec Ideal S8192x144x128 .f32) (R : Fin 8192) (b : Fin 144) :
    bmax Y (ix2 R b) = (Finset.univ : Finset (Fin 128)).fold max ⊥ (fun a => max (Y (ix3 R b a)) (-Y (ix3 R b a))) * k448 := by
  unfold bmax
  rw [mulf_ix, bcast_ix, hostMax_apply, constant_ix, ofBits_neg_inf]
  simp only [absf_ix]
  rfl

/-- The same, of blocks whose elements are known. -/
theorem bmax_of (Y : FVec Ideal S8192x144x128 .f32) (R : Fin 8192) (b : Fin 144) (f : Fin 128 → EReal) (h : ∀ a, Y (ix3 R b a) = f a) :
    bmax Y (ix2 R b) = (Finset.univ : Finset (Fin 128)).fold max ⊥ (fun a => max (f a) (-f a)) * k448 := by
  rw [bmax_apply]
  simp only [h]

/-! ## The operations, stretch by stretch, from any memory -/

section Reads

variable (W : Valuation τ sig (Elt Ideal))

/-- Row `R` of the activations a memory holds. -/
def wrow (R : Fin 8192) : Fin 18432 → EReal := fun j =>
  (W (Proc.devRef .tc main_arg0) : FVec Ideal S2x4096x18432 .bf16)
    (ix3 ⟨R.val / 4096, by have := R.isLt; omega⟩ ⟨R.val % 4096, Nat.mod_lt _ (by decide)⟩ j)

/-- The weight a memory holds. -/
def wgamma : Fin 18432 → EReal := fun j => (W (Proc.devRef .tc main_arg1) : FVec Ideal S18432 .bf16) (ix1 j)

/-- The normalised, weighted activations in blocks. -/
theorem v16_eq (R : Fin 8192) (b : Fin 144) (a : Fin 128) :
    (StableHlo.after hostOps0 W (Proc.devRef .tc main_v16) : FVec Ideal S8192x144x128 .f32) (ix3 R b a) = y (wrow W R) (wgamma W) (col b a) := by
  after_reads_at
  have e : (⟨b.val * 128 + a.val, by have := b.isLt; have := a.isLt; omega⟩ : Fin 18432) = col b a :=
    Fin.ext (by show b.val * 128 + a.val = 128 * b.val + a.val; omega)
  rw [e]
  rfl

/-- The blocks' largest magnitudes are those of the normalised activations. -/
theorem v20_eq : StableHlo.after hostOps0 W (Proc.devRef .tc main_v20) = bmax (StableHlo.after hostOps0 W (Proc.devRef .tc main_v16)) := by
  unfold bmax
  after_reads_simp

/-- A block's largest magnitude, over the largest code. -/
theorem v20_at (R : Fin 8192) (b : Fin 144) :
    (StableHlo.after hostOps0 W (Proc.devRef .tc main_v20) : FVec Ideal S8192x144 .f32) (ix2 R b) = amaxR (wrow W R) (wgamma W) b := by
  rw [v20_eq]
  exact bmax_of _ R b (fun a => y (wrow W R) (wgamma W) (col b a)) (fun a => v16_eq W R b a)

/-- Which blocks' values are below the least normal float. -/
theorem v22_eq : StableHlo.after hostOps0 W (Proc.devRef .tc main_v22)
    = (cmpf .olt (StableHlo.after hostOps0 W (Proc.devRef .tc main_v20) : FVec Ideal S8192x144 .f32)
        (broadcastInDim S8192x144 ![] bcast_S_S8192x144 (constant S_ .f32 0x00800000#32) : FVec Ideal S8192x144 .f32)) := by
  after_reads_simp

/-- The zero put in their place. -/
theorem cst_5_eq : (StableHlo.after hostOps0 W (Proc.devRef .tc main_cst_5) : FVec Ideal S_ .f32) ix0 = (0 : EReal) := by
  after_reads_at

/-- The choice between the two. -/
theorem v23_sel (R : Fin 8192) (b : Fin 144) :
    (StableHlo.after hostOps0_1 W (Proc.devRef .tc main_v23) : FVec Ideal S8192x144 .f32) (ix2 R b)
      = Scalar.select ((W (Proc.devRef .tc main_v22) : IVec S8192x144 1) (ix2 R b)) ((W (Proc.devRef .tc main_cst_5) : FVec Ideal S_ .f32) ix0)
          ((W (Proc.devRef .tc main_v20) : FVec Ideal S8192x144 .f32) (ix2 R b)) := by
  after_reads_at
  rfl

/-- A comparison at an index chooses as the order does. -/
theorem select_olt {s : Shape} (x y : FVec Ideal s .f32) (i : s.Idx) (p q : EReal) :
    Scalar.select (cmpf .olt x y i) p q = if x i < y i then p else q := by
  pointwise

/-- The value whose power of two is sought. -/
theorem v23_at (R : Fin 8192) (b : Fin 144) :
    (StableHlo.after hostOps0_1 (StableHlo.after hostOps0 W) (Proc.devRef .tc main_v23) : FVec Ideal S8192x144 .f32) (ix2 R b)
      = flush (amaxR (wrow W R) (wgamma W) b) := by
  rw [v23_sel, v22_eq, select_olt, bcast_ix, ofBits_tiny, v20_at, cst_5_eq]
  rfl

/-- The steps to the scale leave the normalised activations. -/
theorem v16_keep : StableHlo.after hostOps0_5 (StableHlo.after hostOps0_4 (StableHlo.after hostOps0_3 (StableHlo.after hostOps0_2
    (StableHlo.after hostOps0_1 W)))) (Proc.devRef .tc main_v16) = W (Proc.devRef .tc main_v16) := by
  after_reads_simp

/-- The search for the least power of two. -/
theorem v39_fold (R : Fin 8192) (b : Fin 144) (z : EReal) (hz : (W (Proc.devRef .tc main_v23) : FVec Ideal S8192x144 .f32) (ix2 R b) = z) :
    (StableHlo.after hostOps0_5 (StableHlo.after hostOps0_4 (StableHlo.after hostOps0_3 (StableHlo.after hostOps0_2 W)))
        (Proc.devRef .tc main_v39) : FVec Ideal S8192x144 .f32) (ix2 R b)
      = if z = 0 then (1 : EReal) else
          (Finset.univ : Finset (Fin 253)).fold min (Ideal.ofBits .f32 2139095040#32) fun k =>
            if z < Ideal.pow (Ideal.ofBits .f32 1073741824#32) (FloatOps.sitofp (F := Ideal) .f32 (IntOp.addi 4294967171#32 (BitVec.ofNat 32 k.val)))
              then Ideal.pow (Ideal.ofBits .f32 1073741824#32) (FloatOps.sitofp (F := Ideal) .f32 (IntOp.addi 4294967171#32 (BitVec.ofNat 32 k.val)))
              else Ideal.ofBits .f32 2139095040#32 := by
  subst hz
  after_reads_at
  simp only [id_eq, constant_ix, ofBits_one]

/-- The scale. -/
theorem v39_at (R : Fin 8192) (b : Fin 144) :
    (StableHlo.after hostOps0_5 (StableHlo.after hostOps0_4 (StableHlo.after hostOps0_3 (StableHlo.after hostOps0_2
        (StableHlo.after hostOps0_1 (StableHlo.after hostOps0 W))))) (Proc.devRef .tc main_v39) : FVec Ideal S8192x144 .f32) (ix2 R b)
      = scaleR (amaxR (wrow W R) (wgamma W) b) := by
  rw [v39_fold _ _ _ _ (v23_at W R b)]
  simp only [pow_two, ofBits_inf]
  rfl

/-- The scales' result. -/
theorem v47_eq (R : Fin 8192) (b : Fin 144) :
    (StableHlo.after hostOps0_8 (StableHlo.after hostOps0_7 (StableHlo.after hostOps0_6 W)) (Proc.devRef .tc main_v47) : FVec Ideal S144x8192 .f32) (ix2 b R)
      = (W (Proc.devRef .tc main_v39) : FVec Ideal S8192x144 .f32) (ix2 R b) := by
  after_reads_at

/-- The clipped codes. -/
theorem v46_eq (R : Fin 8192) (j : Fin 18432) (p q : EReal)
    (hp : (W (Proc.devRef .tc main_v16) : FVec Ideal S8192x144x128 .f32) (ix3 R (blk j) (lane j)) = p)
    (hq : (W (Proc.devRef .tc main_v39) : FVec Ideal S8192x144 .f32) (ix2 R (blk j)) = q) :
    (StableHlo.after hostOps0_8 (StableHlo.after hostOps0_7 (StableHlo.after hostOps0_6 W)) (Proc.devRef .tc main_v46) : FVec Ideal S8192x18432 .f32) (ix2 R j)
      = min top (max bot (p * Ideal.div 1 q)) := by
  subst hp hq
  after_reads_at
  simp only [id_eq, constant_ix]
  rfl

end Reads

/-! ## The reference's results -/

variable (m : (ℓ : Loc nD τ sig) → Buf (Elt Ideal) ℓ) (c : Dev nD)

/-- What the host's operations leave, stretch by stretch. -/
theorem split (b : Ref sig .tc) : V m c b = StableHlo.after hostOps0_8 (StableHlo.after hostOps0_7 (StableHlo.after hostOps0_6
    (StableHlo.after hostOps0_5 (StableHlo.after hostOps0_4 (StableHlo.after hostOps0_3 (StableHlo.after hostOps0_2
    (StableHlo.after hostOps0_1 (StableHlo.after hostOps0 (fun b => m (c, b)))))))))) (Proc.devRef .tc b) := by
  unfold V
  simp only [← StableHlo.afterL_eq_after_flatten, StableHlo.afterL_cons, StableHlo.afterL_nil]

/-- Row `R` of the activations. -/
def xrow (R : Fin 8192) : Fin 18432 → EReal := wrow (fun b => m (c, b)) R

/-- The weight. -/
def gamma : Fin 18432 → EReal := wgamma (fun b => m (c, b))

/-- The scales, before the region. -/
theorem V_v47 (b : Fin 144) (R : Fin 8192) :
    (V m c main_v47 : FVec Ideal S144x8192 .f32) (ix2 b R) = scaleR (amaxR (xrow m c R) (gamma m c) b) := by
  rw [split, v47_eq, v39_at]
  rfl

/-- The codes, before the region. -/
theorem V_v46 (R : Fin 8192) (j : Fin 18432) :
    (V m c main_v46 : FVec Ideal S8192x18432 .f32) (ix2 R j) = codeR (xrow m c R) (gamma m c) j := by
  rw [split]
  refine v46_eq _ R j (y (xrow m c R) (gamma m c) j) (scaleR (amaxR (xrow m c R) (gamma m c) (blk j))) ?_ (v39_at _ R (blk j))
  rw [v16_keep, v16_eq, col_blk_lane]
  rfl

/-! ## After the region that rounds the codes -/

/-- The region's one point. -/
def point : Fin cfg0.N := ⟨0, by decide +kernel⟩

/-- The input's block at that point starts at the origin. -/
theorem index_in : win0_0.index point (0 : Fin 2) = 0 ∧ win0_0.index point (1 : Fin 2) = 0 := by decide +kernel

/-- The output's block at that point starts at the origin. -/
theorem index_out : win0_1.index point (0 : Fin 2) = 0 ∧ win0_1.index point (1 : Fin 2) = 0 := by decide +kernel

/-- The input's block is the whole array of codes. -/
theorem iblk_in (R : Fin 8192) (j : Fin 18432) :
    (iblk m c 0 point : Vec Ideal S8192x18432 .f32) (ix2 R j) = codeR (xrow m c R) (gamma m c) j := by
  rw [← V_v46]
  show V m c main_v46 (((cfg0.win 0).blk point).view.emb (ix2 R j)) = V m c main_v46 (ix2 R j)
  refine congrArg _ (funext fun d => Fin.ext ?_)
  obtain ⟨e0, e1⟩ := index_in
  have hb0 : (((cfg0.win 0).blk point).view.emb (ix2 R j) 0).val = win0_0.index point (0 : Fin 2) * 8192 + 1 * R.val := rfl
  have hb1 : (((cfg0.win 0).blk point).view.emb (ix2 R j) 1).val = win0_0.index point (1 : Fin 2) * 18432 + 1 * j.val := rfl
  match d with
  | ⟨0, _⟩ => show (((cfg0.win 0).blk point).view.emb (ix2 R j) 0).val = R.val; rw [hb0, e0]; omega
  | ⟨1, _⟩ => show (((cfg0.win 0).blk point).view.emb (ix2 R j) 1).val = j.val; rw [hb1, e1]; omega

/-- An index of the output's block is the same index of the array. -/
theorem emb_out (R : Fin 8192) (j : Fin 18432) :
    (((cfg0.win 1).blk point).view.emb (ix2 R j) : S8192x18432.Idx) = ix2 R j := by
  refine funext fun d => Fin.ext ?_
  obtain ⟨e0, e1⟩ := index_out
  have hb0 : (((cfg0.win 1).blk point).view.emb (ix2 R j) 0).val = win0_1.index point (0 : Fin 2) * 8192 + 1 * R.val := rfl
  have hb1 : (((cfg0.win 1).blk point).view.emb (ix2 R j) 1).val = win0_1.index point (1 : Fin 2) * 18432 + 1 * j.val := rfl
  match d with
  | ⟨0, _⟩ => show (((cfg0.win 1).blk point).view.emb (ix2 R j) 0).val = R.val; rw [hb0, e0]; omega
  | ⟨1, _⟩ => show (((cfg0.win 1).blk point).view.emb (ix2 R j) 1).val = j.val; rw [hb1, e1]; omega

/-- The body leaves, at an index, its input there. -/
theorem out_apply (x0 : Vec Ideal S8192x18432 .f32) (R : Fin 8192) (j : Fin 18432) : out0_1 x0 (ix2 R j) = x0 (ix2 R j) := by
  unfold out0_1
  rw [canon1_eq]
  show x0 (r0_0.idx (ix1_0 (ix2 R j))) = x0 (ix2 R j)
  refine congrArg x0 (funext fun d => Fin.ext ?_)
  match d with
  | ⟨0, _⟩ => show 0 + 1 * R.val = R.val; omega
  | ⟨1, _⟩ => show 0 + 1 * j.val = j.val; omega

/-- Reading an array through the output's block reads it at the same index. -/
theorem read_out (A : S8192x18432.Idx → EReal) (R : Fin 8192) (j : Fin 18432) :
    (((cfg0.win 1).blk point).view.read (Elt Ideal) A : S8192x18432.Idx → EReal) (ix2 R j) = A (ix2 R j) := by
  show A (((cfg0.win 1).blk point).view.emb (ix2 R j)) = _
  rw [emb_out]

/-- The part of a block that is written back is all of it. -/
theorem cut_out (X : S8192x18432.Idx → EReal) (R : Fin 8192) (j : Fin 18432) :
    ((cfg0.win 1).cut (grid0.coords point) X : S8192x18432.Idx → EReal) (ix2 R j) = X (ix2 R j) := rfl

/-- The codes' result. -/
theorem codes_apply (R : Fin 8192) (j : Fin 18432) :
    ((dats m 0 c).arrAt 1 cfg0.N : S8192x18432.Idx → EReal) (ix2 R j) = codeR (xrow m c R) (gamma m c) j := by
  have h := congrFun ((blocks1 m c point (flush0_1 point)).trans (flushed1 m c point)) (ix2 R j)
  exact (read_out _ R j).symm.trans (h.trans ((cut_out _ R j).trans ((out_apply _ R j).trans (iblk_in m c R j))))

/-- The reference's run, with both results read. -/
theorem run_reference (ρ : Dev nD → PrngReg) : θ_run defs (onTc (τ := τ) (main (F := Ideal))) ⟨m, fun _ => 0, ρ⟩ fun r => ∀ c : Dev nD,
      r.2.mem ((c : Thread nD τ).loc main_v48) = (dats m 0 c).arrAt 1 cfg0.N
      ∧ r.2.mem ((c : Thread nD τ).loc main_v47) = V m c main_v47
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post1 m r h c,
      (h c).2 main_v47 (Pipeline.mem_restRefs_of main_v47 (by decide) (by decide)),
      kept_main_arg0 m r h c,
      kept_main_arg1 m r h c⟩)
    (run_main m ρ)

end Cert.Proof.ReferenceValue

end
-- ==== Proof.Agree.lean ====
/- The mathematics between the two programs: the kernel scales a block's largest weighted magnitude by the row's
   reciprocal root mean square once, the reference scales every element; the values agree, and stay below `2 ^ 126`
   for a weight of at most `2 ^ 127`. -/
module

public import proofs.«01_k».proof.Proof.ReferenceValue

@[expose] public section

set_option maxRecDepth 16384

noncomputable section

namespace Cert.Proof.Agree

open Idealize.ShloMosaic
open Cert.Proof.Exponent Cert.Proof.Block
open Cert.Proof.Point (col blk lane blockMax amax code)
open Cert.Proof.ReferenceValue (normR y amaxR codeR ofBits_width)

/-! ## Constants -/

/-- The reciprocal of the largest code is a small positive real. -/
theorem k448_eq : ∃ k : ℝ, k448 = (k : EReal) ∧ 0 < k ∧ k < 0.0023 := by
  have e : ((0x3B124925#32 : BitVec 32).extractLsb' 31 1 == 1#1) = false ∧ ((0x3B124925#32 : BitVec 32).extractLsb' 23 8).toNat = 118
      ∧ ((0x3B124925#32 : BitVec 32).extractLsb' 0 23).toNat = 1198373 := by decide +kernel
  unfold k448 Ideal.ofBits Ideal.ieee
  simp only [Nat.reduceAdd, e.1, e.2.1, e.2.2]
  rw [if_neg (by omega), if_neg (by omega)]
  exact ⟨_, rfl, by norm_num, by norm_num⟩

/-- The millionth is a positive real. -/
theorem eps_eq : ∃ k : ℝ, eps = (k : EReal) ∧ 0 < k := by
  have e : ((0x358637BD#32 : BitVec 32).extractLsb' 31 1 == 1#1) = false ∧ ((0x358637BD#32 : BitVec 32).extractLsb' 23 8).toNat = 107
      ∧ ((0x358637BD#32 : BitVec 32).extractLsb' 0 23).toNat = 407485 := by decide +kernel
  unfold eps Ideal.ofBits Ideal.ieee
  simp only [Nat.reduceAdd, e.1, e.2.1, e.2.2]
  rw [if_neg (by omega), if_neg (by omega)]
  exact ⟨_, rfl, by norm_num⟩

/-! ## The reciprocal root mean square -/

/-- The mean by a division is the mean by a product with the reciprocal. -/
theorem normR_eq (x : Fin 18432 → EReal) : normR x = Point.norm x := by
  unfold normR Point.norm
  rw [ofBits_width, Ideal.div_coe (by norm_num : (18432 : ℝ) ≠ 0), one_div]

/-- A square is not negative. -/
theorem sq_nonneg' (a : EReal) : 0 ≤ a * a := by
  induction a using EReal.rec with
  | bot => simp
  | top => simp
  | coe r => exact_mod_cast mul_self_nonneg r

/-- A sum of real squares, as a real. -/
theorem coe_sum (u : Fin 18432 → ℝ) : (∑ c, (u c : EReal) * (u c : EReal)) = ((∑ c, u c * u c : ℝ) : EReal) := by
  have h : ∀ s : Finset (Fin 18432), (∑ c ∈ s, (u c : EReal) * (u c : EReal)) = ((∑ c ∈ s, u c * u c : ℝ) : EReal) := by
    intro s
    induction s using Finset.cons_induction with
    | empty => simp
    | cons a s ha ih => rw [Finset.sum_cons, Finset.sum_cons, ih, EReal.coe_add, EReal.coe_mul]
  exact h Finset.univ

/-- Either the row's factor is zero, or the row is of reals and the factor is the real one. -/
theorem norm_cases (x : Fin 18432 → EReal) :
    Point.norm x = 0 ∨ ∃ (u : Fin 18432 → ℝ) (e : ℝ), 0 < e ∧ (∀ c, x c = (u c : EReal))
      ∧ Point.norm x = (((Real.sqrt ((∑ c, u c * u c) * 18432⁻¹ + e))⁻¹ : ℝ) : EReal) := by
  obtain ⟨e, he, hpos⟩ := eps_eq
  by_cases h : ∃ c, x c * x c = ⊤
  · left
    obtain ⟨c, hc⟩ := h
    have hs : (∑ c, x c * x c) = ⊤ := by
      refine top_le_iff.mp ?_
      rw [← hc]
      exact Finset.single_le_sum (f := fun c => x c * x c) (fun i _ => sq_nonneg' (x i)) (Finset.mem_univ c)
    unfold Point.norm
    rw [hs, he, EReal.top_mul_coe_of_pos (by norm_num), EReal.top_add_coe]
    rfl
  · right
    have hr : ∀ c, ∃ r : ℝ, x c = (r : EReal) := by
      intro c
      have hc : x c * x c ≠ ⊤ := fun hc => h ⟨c, hc⟩
      generalize x c = a at hc
      induction a using EReal.rec with
      | bot => simp at hc
      | top => simp at hc
      | coe r => exact ⟨r, rfl⟩
    choose u hu using hr
    refine ⟨u, e, hpos, hu, ?_⟩
    have hs : 0 ≤ ∑ c, u c * u c := Finset.sum_nonneg fun c _ => mul_self_nonneg _
    have hp : 0 < (∑ c, u c * u c) * (18432⁻¹ : ℝ) + e := add_pos_of_nonneg_of_pos (mul_nonneg hs (by norm_num)) hpos
    unfold Point.norm
    rw [show (∑ c, x c * x c) = ((∑ c, u c * u c : ℝ) : EReal) by rw [← coe_sum]; exact Finset.sum_congr rfl fun c _ => by rw [hu c], he, ← EReal.coe_mul, ← EReal.coe_add]
    generalize (∑ c, u c * u c) * (18432⁻¹ : ℝ) + e = z at hp ⊢
    show (if z < 0 then ⊥ else if z = 0 then ⊤ else (((Real.sqrt z)⁻¹ : ℝ) : EReal)) = _
    rw [if_neg (not_lt.mpr hp.le), if_neg hp.ne']

/-- The row's factor is not negative. -/
theorem norm_nonneg (x : Fin 18432 → EReal) : 0 ≤ Point.norm x := by
  rcases norm_cases x with h | ⟨u, e, _, _, h⟩
  · rw [h]
  · rw [h]; exact EReal.coe_nonneg.mpr (inv_nonneg.mpr (Real.sqrt_nonneg _))

/-- A normalised element is a real of magnitude at most `136`. -/
theorem normalised (x : Fin 18432 → EReal) (c : Fin 18432) : ∃ t : ℝ, x c * Point.norm x = (t : EReal) ∧ |t| ≤ 136 := by
  rcases norm_cases x with h | ⟨u, e, he, hu, h⟩
  · exact ⟨0, by rw [h, mul_zero]; rfl, by norm_num⟩
  · refine ⟨u c * (Real.sqrt ((∑ c, u c * u c) * 18432⁻¹ + e))⁻¹, by rw [h, hu c]; exact (EReal.coe_mul _ _).symm, ?_⟩
    have hc : u c * u c ≤ ∑ c, u c * u c :=
      Finset.single_le_sum (f := fun c => u c * u c) (fun i _ => mul_self_nonneg (u i)) (Finset.mem_univ c)
    have hs : 0 ≤ ∑ c, u c * u c := Finset.sum_nonneg fun c _ => mul_self_nonneg _
    generalize (∑ c, u c * u c) = s at hc hs ⊢
    have hp : 0 < s * 18432⁻¹ + e := add_pos_of_nonneg_of_pos (mul_nonneg hs (by norm_num)) he
    have hq : 0 < Real.sqrt (s * 18432⁻¹ + e) := Real.sqrt_pos.mpr hp
    rw [abs_mul, abs_of_nonneg (inv_nonneg.mpr hq.le), ← div_eq_mul_inv, div_le_iff₀ hq]
    refine abs_le_of_sq_le_sq ?_ (by positivity)
    rw [mul_pow, Real.sq_sqrt hp.le]
    nlinarith

/-! ## The largest magnitude -/

/-- A magnitude is not negative. -/
theorem mag_nonneg (a : EReal) : 0 ≤ max a (-a) := by
  rcases le_total 0 a with h | h
  · exact le_max_of_le_left h
  · exact le_max_of_le_right (EReal.neg_nonneg.mpr h)

/-- A product with a factor that is not negative keeps the order. -/
theorem mul_mono {r : EReal} (hr : 0 ≤ r) : Monotone (· * r) := fun _ _ h => mul_le_mul_of_nonneg_right h hr

/-- A magnitude times a factor that is not negative. -/
theorem mag_mul (a : EReal) {r : EReal} (hr : 0 ≤ r) : max a (-a) * r = max (a * r) (-(a * r)) := by
  rw [← EReal.neg_mul]
  exact (mul_mono hr).map_max

/-- The largest of a block's values times a factor that is not negative. -/
theorem fold_max_mul (f : Fin 128 → EReal) {r : EReal} (hr : 0 ≤ r) :
    (Finset.univ : Finset (Fin 128)).fold max ⊥ f * r = (Finset.univ : Finset (Fin 128)).fold max ⊥ (fun a => f a * r) := by
  have h := Finset.univ_nonempty (α := Fin 128)
  have e : ∀ f : Fin 128 → EReal, (Finset.univ : Finset (Fin 128)).fold max ⊥ f = Finset.univ.sup' h f := fun f => by
    rw [Finset.sup'_eq_sup]; rfl
  rw [e, e]
  exact Finset.comp_sup'_eq_sup'_comp h (· * r) (fun a b => (mul_mono hr).map_max)

/-- The kernel's largest magnitude is the reference's. -/
theorem amax_eq (x g : Fin 18432 → EReal) (b : Fin 144) : amax x g b = amaxR x g b := by
  unfold amax amaxR blockMax
  rw [fold_max_mul _ (norm_nonneg x)]
  refine congrArg (fun f => (Finset.univ : Finset (Fin 128)).fold max ⊥ f * k448) (funext fun a => ?_)
  have e : g (col b a) * x (col b a) * Point.norm x = y x g (col b a) := by
    unfold y
    rw [normR_eq, mul_assoc, mul_comm]
  rw [mag_mul _ (norm_nonneg x), e]

/-- The largest magnitude is not negative. -/
theorem amaxR_nonneg (x g : Fin 18432 → EReal) (b : Fin 144) : 0 ≤ amaxR x g b := by
  obtain ⟨k, hk, hpos, _⟩ := k448_eq
  unfold amaxR
  refine mul_nonneg ?_ (by rw [hk]; exact EReal.coe_nonneg.mpr hpos.le)
  exact (Finset.le_fold_max _).mpr (Or.inr ⟨0, Finset.mem_univ _, mag_nonneg _⟩)

/-- A weight's bound. -/
def Bounded (g : Fin 18432 → EReal) : Prop := ∀ c, max (g c) (-(g c)) ≤ (((2 : ℝ) ^ (127 : ℤ) : ℝ) : EReal)

/-- Under that bound the largest magnitude over the largest code is below `2 ^ 126`. -/
theorem amaxR_lt (x g : Fin 18432 → EReal) (hg : Bounded g) (b : Fin 144) : amaxR x g b < (((2 : ℝ) ^ (126 : ℤ) : ℝ) : EReal) := by
  obtain ⟨k, hk, hpos, hlt⟩ := k448_eq
  have hy : ∀ c, max (y x g c) (-(y x g c)) ≤ ((136 * (2 : ℝ) ^ (127 : ℤ) : ℝ) : EReal) := by
    intro c
    obtain ⟨t, ht, hb⟩ := normalised x c
    have hc := hg c
    unfold y
    rw [normR_eq, ht]
    generalize g c = a at hc
    generalize (2 : ℝ) ^ (127 : ℤ) = q at hc ⊢
    induction a using EReal.rec with
    | bot => simp at hc
    | top => simp at hc
    | coe r =>
      rw [max_le_iff, ← EReal.coe_neg, EReal.coe_le_coe_iff, EReal.coe_le_coe_iff, ← abs_le'] at hc
      rw [← EReal.coe_mul, max_le_iff, ← EReal.coe_neg, EReal.coe_le_coe_iff, EReal.coe_le_coe_iff, ← abs_le', abs_mul]
      exact mul_le_mul hb hc (abs_nonneg _) (by norm_num)
  have hf : (Finset.univ : Finset (Fin 128)).fold max ⊥ (fun a => max (y x g (col b a)) (-(y x g (col b a)))) ≤ ((136 * (2 : ℝ) ^ (127 : ℤ) : ℝ) : EReal) :=
    (Finset.fold_max_le _).mpr ⟨bot_le, fun a _ => hy _⟩
  unfold amaxR
  refine lt_of_le_of_lt (mul_le_mul_of_nonneg_right hf (by rw [hk]; exact EReal.coe_nonneg.mpr hpos.le)) ?_
  rw [hk, ← EReal.coe_mul, EReal.coe_lt_coe_iff]
  have e : (2 : ℝ) ^ (127 : ℤ) = 2 * (2 : ℝ) ^ (126 : ℤ) := by norm_num
  have hp : 0 < (2 : ℝ) ^ (126 : ℤ) := by positivity
  rw [e]
  generalize (2 : ℝ) ^ (126 : ℤ) = q at hp
  nlinarith

/-! ## The two results -/

/-- The scales agree. -/
theorem scale_agrees (x g : Fin 18432 → EReal) (hg : Bounded g) (b : Fin 144) : scaleK (amax x g b) = scaleR (amaxR x g b) := by
  rw [amax_eq]
  exact scale_eq _ (amaxR_nonneg x g b) (amaxR_lt x g hg b)

/-- The codes agree. -/
theorem code_agrees (x g : Fin 18432 → EReal) (hg : Bounded g) (c : Fin 18432) : code x g c = codeR x g c := by
  unfold code codeR
  rw [amax_eq, inv_eq _ (amaxR_nonneg x g _) (amaxR_lt x g hg _), ← mul_assoc]
  refine congrArg (fun z => min top (max bot (z * _))) ?_
  unfold y
  rw [normR_eq, mul_assoc, mul_comm]

end Cert.Proof.Agree

end
-- ==== Proof.Claims.lean ====
/- The two programs from equal arguments: the hypothesis on the weight, and the equality of both results. -/
module

public import proofs.«01_k».proof.Defs
public import proofs.«01_k».proof.Proof.Gen.Pre_gamma_bounded
public import proofs.«01_k».proof.Proof.KernelValue
public import proofs.«01_k».proof.Proof.Agree

@[expose] public section

set_option maxRecDepth 16384

noncomputable section

namespace Cert.Proof.Claims

open Idealize.ShloMosaic Idealize.ShloMosaic.TcCoe Idealize.SL.Sem
open Cert.Proof.Exponent Cert.Proof.Agree

/-- The pattern of `2 ^ 127`. -/
theorem ofBits_bound : Ideal.ofBits .f32 0x7F000000#32 = (((2 : ℝ) ^ (127 : ℤ) : ℝ) : EReal) := by
  rw [show (0x7F000000#32 : BitVec 32) = field 254 by decide +kernel]
  refine (ieee_field 254 (by omega) (by omega)).trans ?_
  norm_num

/-- The printed predicate, at one element of the weight. -/
theorem bounded_at (x : FVec Ideal Cert.Pre_gamma_bounded.S2x4096x18432 .bf16) (g : FVec Ideal Cert.Pre_gamma_bounded.S18432 .bf16)
    (h : Cert.Pre_gamma_bounded.fn x g = fun _ => 1#1) (j : Fin 18432) :
    max (g (ix1 j) : EReal) (-(g (ix1 j) : EReal)) ≤ (((2 : ℝ) ^ (127 : ℤ) : ℝ) : EReal) := by
  have hj := congrFun h (ix1 j)
  rw [← ofBits_bound]
  by_contra hn
  have e : Cert.Pre_gamma_bounded.fn x g (ix1 j)
      = BitVec.ofBool (decide (max (g (ix1 j) : EReal) (-(g (ix1 j) : EReal)) ≤ Ideal.ofBits .f32 0x7F000000#32)) := by
    dsimp only [Cert.Pre_gamma_bounded.fn]
    pointwise
    rfl
  rw [e, decide_eq_false hn] at hj
  exact absurd hj (by decide)

/-- The hypothesis bounds the weight the kernel is given. -/
theorem bounded (m : (ℓ : Loc Cert.KernelIdeal.nD Cert.KernelIdeal.τ Cert.KernelIdeal.sig) → Buf (Elt Ideal) ℓ)
    (h : Cert.Pre_KernelIdeal_gamma_bounded m) (c : Dev Cert.KernelIdeal.nD) : Bounded (KernelValue.gamma m c) :=
  fun j => bounded_at _ _ (h c) j

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- Both programs are given the same rows. -/
theorem rows_same (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (R : Fin 8192) :
    ReferenceValue.xrow m' c R = KernelValue.xrow m c R :=
  funext fun j => congrFun h _

/-- Both programs are given the same weight. -/
theorem gamma_same (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    ReferenceValue.gamma m' c = KernelValue.gamma m c :=
  funext fun j => congrFun h _

/-- The scales are the same array. -/
theorem scales_same (hb : Bounded (KernelValue.gamma m c))
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Gen.V m' c Cert.ReferenceIdeal.main_v47 : (⟨2, ![144, 8192]⟩ : Shape).Idx → EReal) = Cert.KernelIdeal.Value.G3 m c := by
  funext i
  obtain ⟨b, R, rfl⟩ : ∃ b R, i = ix2 b R := ⟨_, _, eq_ix2 i⟩
  refine (ReferenceValue.V_v47 m' c b R).trans ?_
  rw [rows_same m m' c h0, gamma_same m m' c h1]
  exact (scale_agrees _ _ hb b).symm.trans (KernelValue.G3_apply m c b R).symm

/-- The codes are the same array. -/
theorem codes_same (hb : Bounded (KernelValue.gamma m c))
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    ((Cert.ReferenceIdeal.Gen.dats m' 0 c).arrAt 1 Cert.ReferenceIdeal.cfg0.N : (⟨2, ![8192, 18432]⟩ : Shape).Idx → EReal) = Cert.KernelIdeal.Value.G2 m c := by
  funext i
  obtain ⟨R, j, rfl⟩ : ∃ R j, i = ix2 R j := ⟨_, _, eq_ix2 i⟩
  refine (ReferenceValue.codes_apply m' c R j).trans ?_
  rw [rows_same m m' c h0, gamma_same m m' c h1]
  exact (code_agrees _ _ hb j).symm.trans (KernelValue.G2_apply m c R j).symm

/-- From equal arguments, both programs end with the same codes and the same scales. -/
theorem algebraic : Cert.algebraic_KernelIdeal_ReferenceIdeal_pre_gamma_bounded := by
  intro m g m' g' hpre hargs
  refine ⟨Cert.KernelIdeal.Value.G2 m, Cert.KernelIdeal.Value.G3 m, Cert.KernelIdeal.Value.run m g, ?_⟩
  refine (θ_run Cert.ReferenceIdeal.defs _ _).mono (fun r h c => ?_) (ReferenceValue.run_reference m' g')
  obtain ⟨h48, h47, ha0, ha1⟩ := h c
  obtain ⟨e0, e1⟩ := hargs c
  exact ⟨h48.trans (codes_same m m' c (bounded m hpre c) e0 e1), h47.trans (scales_same m m' c (bounded m hpre c) e0 e1), ha0, ha1⟩

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gamma_bounded
public import proofs.«01_k».proof.Proof.Gen.KernelIdeal.Value
public import proofs.«01_k».proof.Proof.Gen.ReferenceIdeal.Value
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate: the programs' frames, the named constant, and the two programs' equal results. -/
theorem claim : Cert.Claim := ⟨Cert.Kernel.Gen.facts, Cert.KernelIdeal.Gen.facts, Cert.ReferenceIdeal.Gen.facts, Cert.Pre_gamma_bounded.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  IdealRules.named_const.statement Cert.KernelIdeal.κ "inv_d" .f32 0x38638E39#32 (((18432⁻¹ : ℝ)) : EReal) rfl,
  Cert.Proof.Claims.algebraic⟩

end Cert.Proof

end
